-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 256]⟩ ⟨2, ![512, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S128x256 : Shape := ⟨2, ![128, 256]⟩
abbrev S3x512x256 : Shape := ⟨3, ![3, 512, 256]⟩
abbrev S3x6x128x256 : Shape := ⟨4, ![3, 6, 128, 256]⟩
abbrev S2x2x128x256 : Shape := ⟨4, ![2, 2, 128, 256]⟩
abbrev S2x128x256 : Shape := ⟨3, ![2, 128, 256]⟩
abbrev S3x6 : Shape := ⟨2, ![3, 6]⟩
abbrev S2x2 : Shape := ⟨2, ![2, 2]⟩
abbrev S_ : Shape := ⟨0, ![]⟩
abbrev S128x512 : Shape := ⟨2, ![128, 512]⟩
abbrev S1x128x256 : Shape := ⟨3, ![1, 128, 256]⟩
abbrev S1x1 : Shape := ⟨2, ![1, 1]⟩
abbrev S1x1x128x256 : Shape := ⟨4, ![1, 1, 128, 256]⟩
abbrev S1x512x256 : Shape := ⟨3, ![1, 512, 256]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S128x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S128x256, .f32⟩
  | .local _ .vmem, ⟨8, _⟩ => ⟨S3x512x256, .bf16⟩
  | .local _ .vmem, ⟨9, _⟩ => ⟨S3x6x128x256, .bf16⟩
  | .local _ .vmem, ⟨10, _⟩ => ⟨S2x2x128x256, .bf16⟩
  | .local _ .vmem, ⟨11, _⟩ => ⟨S2x128x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v10 : BitVec 32 := Scalar.addi v2 c1_i32_4
  let c4_i32_5 : BitVec 32 := 4#32
  let v11 : BitVec 32 := Scalar.remsi v10 c4_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_8 : BitVec 32 := 2#32
  let v14 : BitVec 32 := Scalar.addi v2 c2_i32_8
  let c4_i32_9 : BitVec 32 := 4#32
  let v15 : BitVec 32 := Scalar.remsi v14 c4_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_13 : BitVec 32 := 3#32
  let v18 : BitVec 32 := Scalar.addi v2 c3_i32_13
  let c4_i32_14 : BitVec 32 := 4#32
  let v19 : BitVec 32 := Scalar.remsi v18 c4_i32_14
  let c1_i32_16 : BitVec 32 := 1#32
  let v20 : BitVec 32 := Scalar.muli v19 c1_i32_16
  let v21 : BitVec 32 := Scalar.addi c0_i32_17 v20
  v21.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v26 : BitVec 32 := Scalar.muli v2 c128_i32
  let v27 : Index := Scalar.indexCast v26
  let c0_21 : Index := 0#32
  ![v27.toNat, 0]
def k0_off2 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_22 : BitVec 32 := 128#32
  let v30 : BitVec 32 := Scalar.muli v6 c128_i32_22
  let v31 : Index := Scalar.indexCast v30
  let c0_23 : Index := 0#32
  ![v31.toNat, 0]
def k0_off3 (d0 : Dev nD) (c2_i32 : BitVec 32) : Fin 3 → Nat :=
  let c0_27 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_26 : BitVec 32 := 128#32
  let v40 : BitVec 32 := Scalar.muli v6 c128_i32_26
  let v41 : Index := Scalar.indexCast v40
  let c0_28 : Index := 0#32
  ![0, v41.toNat, 0]
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_30 : BitVec 32 := 128#32
  let v45 : BitVec 32 := Scalar.muli v6 c128_i32_30
  let c0_i32_44 : BitVec 32 := 0#32
  ![v45.toNat, 0]
def k0_off5 (d0 : Dev nD) (c2_i32 : BitVec 32) : Fin 3 → Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_30 : BitVec 32 := 128#32
  let v45 : BitVec 32 := Scalar.muli v6 c128_i32_30
  let c0_i32_43 : BitVec 32 := 0#32
  ![0, v45.toNat, 0]
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_38 : BitVec 32 := 1#32
  let v46 : BitVec 32 := Scalar.muli v6 c1_i32_38
  let v47 : BitVec 32 := Scalar.addi c0_i32_39 v46
  v47.toNat
def k0_off6 (d0 : Dev nD) : Fin 3 → Nat :=
  let c0_49 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_48 : BitVec 32 := 128#32
  let v63 : BitVec 32 := Scalar.muli v2 c128_i32_48
  let v64 : Index := Scalar.indexCast v63
  let c0_50 : Index := 0#32
  ![0, v64.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_51 : BitVec 32 := 128#32
  let v68 : BitVec 32 := Scalar.muli v2 c128_i32_51
  let c0_i32_65 : BitVec 32 := 0#32
  ![v68.toNat, 0]
def k0_off8 (d0 : Dev nD) : Fin 3 → Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_51 : BitVec 32 := 128#32
  let v68 : BitVec 32 := Scalar.muli v2 c128_i32_51
  let c0_i32_64 : BitVec 32 := 0#32
  ![0, v68.toNat, 0]
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_59 : BitVec 32 := 1#32
  let v69 : BitVec 32 := Scalar.muli v6 c1_i32_59
  let v70 : BitVec 32 := Scalar.addi c0_i32_60 v69
  v70.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_82 : BitVec 32 := 1#32
  let v96 : BitVec 32 := Scalar.muli v4 c1_i32_82
  let v97 : BitVec 32 := Scalar.addi c0_i32_83 v96
  v97.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_97 : BitVec 32 := 1#32
  let v108 : BitVec 32 := Scalar.muli v8 c1_i32_97
  let v109 : BitVec 32 := Scalar.addi c0_i32_98 v108
  v109.toNat
def k0_dev8 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_120 : BitVec 32 := 1#32
  let v135 : BitVec 32 := Scalar.muli v8 c1_i32_120
  let v136 : BitVec 32 := Scalar.addi c0_i32_121 v135
  v136.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_134 : BitVec 32 := 1#32
  let v147 : BitVec 32 := Scalar.muli v4 c1_i32_134
  let v148 : BitVec 32 := Scalar.addi c0_i32_135 v147
  v148.toNat
def k0_dev10 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_206 : BitVec 32 := 1#32
  let v203 : BitVec 32 := Scalar.muli v4 c1_i32_206
  let v204 : BitVec 32 := Scalar.addi c0_i32_207 v203
  v204.toNat
def k0_dev11 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_219 : BitVec 32 := 1#32
  let v213 : BitVec 32 := Scalar.muli v8 c1_i32_219
  let v214 : BitVec 32 := Scalar.addi c0_i32_220 v213
  v214.toNat
def k0_off9 (d0 : Dev nD) (c2_i32 : BitVec 32) : Fin 3 → Nat :=
  let c1_287 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_286 : BitVec 32 := 128#32
  let v276 : BitVec 32 := Scalar.muli v6 c128_i32_286
  let v277 : Index := Scalar.indexCast v276
  let c0_288 : Index := 0#32
  ![1, v277.toNat, 0]
def k0_off10 (d0 : Dev nD) (c2_i32 : BitVec 32) : Fin 3 → Nat :=
  let c1_i32_290 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_289 : BitVec 32 := 128#32
  let v281 : BitVec 32 := Scalar.muli v6 c128_i32_289
  let c0_i32_302 : BitVec 32 := 0#32
  ![1, v281.toNat, 0]
def k0_dev12 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_297 : BitVec 32 := 1#32
  let v282 : BitVec 32 := Scalar.muli v6 c1_i32_297
  let v283 : BitVec 32 := Scalar.addi c0_i32_298 v282
  v283.toNat
def k0_off11 (d0 : Dev nD) : Fin 3 → Nat :=
  let c1_308 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_307 : BitVec 32 := 128#32
  let v299 : BitVec 32 := Scalar.muli v2 c128_i32_307
  let v300 : Index := Scalar.indexCast v299
  let c0_309 : Index := 0#32
  ![1, v300.toNat, 0]
def k0_off12 (d0 : Dev nD) : Fin 3 → Nat :=
  let c1_i32_311 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_310 : BitVec 32 := 128#32
  let v304 : BitVec 32 := Scalar.muli v2 c128_i32_310
  let c0_i32_323 : BitVec 32 := 0#32
  ![1, v304.toNat, 0]
def k0_dev13 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_318 : BitVec 32 := 1#32
  let v305 : BitVec 32 := Scalar.muli v6 c1_i32_318
  let v306 : BitVec 32 := Scalar.addi c0_i32_319 v305
  v306.toNat
def k0_dev14 (d0 : Dev nD) : Nat :=
  let c0_i32_358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_357 : BitVec 32 := 1#32
  let v338 : BitVec 32 := Scalar.muli v4 c1_i32_357
  let v339 : BitVec 32 := Scalar.addi c0_i32_358 v338
  v339.toNat
def k0_dev15 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_372 : BitVec 32 := 1#32
  let v350 : BitVec 32 := Scalar.muli v8 c1_i32_372
  let v351 : BitVec 32 := Scalar.addi c0_i32_373 v350
  v351.toNat
def k0_dev16 (d0 : Dev nD) : Nat :=
  let c0_i32_412 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_411 : BitVec 32 := 1#32
  let v383 : BitVec 32 := Scalar.muli v8 c1_i32_411
  let v384 : BitVec 32 := Scalar.addi c0_i32_412 v383
  v384.toNat
def k0_dev17 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_426 : BitVec 32 := 1#32
  let v395 : BitVec 32 := Scalar.muli v4 c1_i32_426
  let v396 : BitVec 32 := Scalar.addi c0_i32_427 v395
  v396.toNat
def k0_dev18 (d0 : Dev nD) : Nat :=
  let c0_i32_501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_500 : BitVec 32 := 1#32
  let v451 : BitVec 32 := Scalar.muli v4 c1_i32_500
  let v452 : BitVec 32 := Scalar.addi c0_i32_501 v451
  v452.toNat
def k0_dev19 (d0 : Dev nD) : Nat :=
  let c0_i32_514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_513 : BitVec 32 := 1#32
  let v461 : BitVec 32 := Scalar.muli v8 c1_i32_513
  let v462 : BitVec 32 := Scalar.addi c0_i32_514 v461
  v462.toNat
def k0_off13 (d0 : Dev nD) (c2_i32 : BitVec 32) : Fin 3 → Nat :=
  let c2_584 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_583 : BitVec 32 := 128#32
  let v524 : BitVec 32 := Scalar.muli v6 c128_i32_583
  let v525 : Index := Scalar.indexCast v524
  let c0_585 : Index := 0#32
  ![2, v525.toNat, 0]
def k0_off14 (d0 : Dev nD) (c2_i32 : BitVec 32) : Fin 3 → Nat :=
  let c2_i32_587 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c2_i32
  let c4_i32_2 : BitVec 32 := 4#32
  let v6 : BitVec 32 := Scalar.remsi v5 c4_i32_2
  let c128_i32_586 : BitVec 32 := 128#32
  let v529 : BitVec 32 := Scalar.muli v6 c128_i32_586
  let c0_i32_599 : BitVec 32 := 0#32
  ![2, v529.toNat, 0]
def k0_dev20 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_594 : BitVec 32 := 1#32
  let v530 : BitVec 32 := Scalar.muli v6 c1_i32_594
  let v531 : BitVec 32 := Scalar.addi c0_i32_595 v530
  v531.toNat
def k0_off15 (d0 : Dev nD) : Fin 3 → Nat :=
  let c2_605 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_604 : BitVec 32 := 128#32
  let v547 : BitVec 32 := Scalar.muli v2 c128_i32_604
  let v548 : Index := Scalar.indexCast v547
  let c0_606 : Index := 0#32
  ![2, v548.toNat, 0]
def k0_dev21 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_639 : BitVec 32 := 1#32
  let v574 : BitVec 32 := Scalar.muli v4 c1_i32_639
  let v575 : BitVec 32 := Scalar.addi c0_i32_640 v574
  v575.toNat
def k0_dev22 (d0 : Dev nD) : Nat :=
  let c0_i32_679 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_678 : BitVec 32 := 1#32
  let v607 : BitVec 32 := Scalar.muli v8 c1_i32_678
  let v608 : BitVec 32 := Scalar.addi c0_i32_679 v607
  v608.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x2048 : Shape := ⟨2, ![256, 2048]⟩
abbrev S2048x256 : Shape := ⟨2, ![2048, 256]⟩
abbrev S512x2048 : Shape := ⟨2, ![512, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S2048x256, .bf16⟩
  | .hbm, ⟨5, _⟩ => ⟨S2048x256, .bf16⟩
  | .hbm, ⟨6, _⟩ => ⟨S2048x256, .bf16⟩
  | .hbm, ⟨7, _⟩ => ⟨S512x2048, .f32⟩
  | .hbm, ⟨8, _⟩ => ⟨S512x2048, .bf16⟩
  | .hbm, ⟨9, _⟩ => ⟨S_, .bf16⟩
  | .hbm, ⟨10, _⟩ => ⟨S512x2048, .bf16⟩
  | .hbm, ⟨11, _⟩ => ⟨S512x2048, .bf16⟩
  | .hbm, ⟨12, _⟩ => ⟨S512x256, .f32⟩
  | .hbm, ⟨13, _⟩ => ⟨S512x256, .bf16⟩
  | .hbm, ⟨14, _⟩ => ⟨S512x2048, .f32⟩
  | .hbm, ⟨15, _⟩ => ⟨S512x2048, .bf16⟩
  | .hbm, ⟨16, _⟩ => ⟨S_, .bf16⟩
  | .hbm, ⟨17, _⟩ => ⟨S512x2048, .bf16⟩
  | .hbm, ⟨18, _⟩ => ⟨S512x2048, .bf16⟩
  | .hbm, ⟨19, _⟩ => ⟨S512x256, .f32⟩
  | .hbm, ⟨20, _⟩ => ⟨S512x256, .bf16⟩
  | .hbm, ⟨21, _⟩ => ⟨S512x2048, .f32⟩
  | .hbm, ⟨22, _⟩ => ⟨S512x2048, .bf16⟩
  | .hbm, ⟨23, _⟩ => ⟨S_, .bf16⟩
  | .hbm, ⟨24, _⟩ => ⟨S512x2048, .bf16⟩
  | .hbm, ⟨25, _⟩ => ⟨S512x2048, .bf16⟩
  | .hbm, ⟨26, _⟩ => ⟨S512x256, .f32⟩
  | .hbm, ⟨27, _⟩ => ⟨S512x256, .bf16⟩
  | .hbm, ⟨28, _⟩ => ⟨S512x256, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Common.lean ====
/-
# The exchange of the three-layer perceptron: channels, cells, schedule, values

Four devices hold 512 hidden units each of three layers. In every layer a device multiplies row blocks of 128 rows
by its own columns and rows of the two weights and sends the resulting pieces to the devices that add them up. A
`Ch` below names one remote copy: `.inl (k, s)` the copy of a piece in layer `k` into the receiver's slot `s`,
`.inr (k, s)` the copy of the activation after layer `k` into the receiver's slot `s`. Row blocks are named relative
to the device: block `j` of device `c` is block `c + j` of the batch.

This file says where each copy comes from, where it lands and what it carries, which semaphores it raises, and gives
the schedule of the semaphore cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Pipeline.Value
public import Idealize.ShloMosaic.Lib.Rounds.Family
public import Idealize.ShloMosaic.Lib.Tactic
public import Mathlib.Logic.Function.Basic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the exchange (duties named by `Fin 4`) beside the pipeline's. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The values -/

/-- The arrays the devices are handed: `x` (every device its own copy), and per layer the device's columns of the
    first weight and rows of the second. -/
structure Inputs (F : FTy → Type) where
  x : Dev nD → Vec F S512x256 .bf16
  wi : ℕ → Dev nD → Vec F S256x512 .bf16
  wo : ℕ → Dev nD → Vec F S512x256 .bf16

/-- The rectangle of row block `b` of the batch. -/
abbrev rowRect (b : Fin 4) : Rect S512x256 :=
  Rect.unit (s := S512x256) ![128 * b.val, 0] S128x256.size (by revert b; decide)

/-- Row block `b` of the batch. -/
def rows (b : Fin 4) (x : Vec F S512x256 .bf16) : FVec F S128x256 .bf16 := fun j => x ((rowRect b).emb j)

/-- One device's share of a layer on one row block: multiply, clamp at zero, multiply, each product rounded. -/
def mlp (wi : FVec F S256x512 .bf16) (wo : FVec F S512x256 .bf16) (x : FVec F S128x256 .bf16) : FVec F S128x256 .bf16 :=
  truncf .bf16 (matmul dot_S128x512_S512x256_S128x256_1_0_0_1_n_n none
    (truncf .bf16 (maximumf (matmul dot_S128x256_S256x512_S128x512_1_0_0_1_n_n none x wi (constant S128x512 .f32 0x00000000#32))
      (broadcast S128x512 (Scalar.ofBits .f32 0x00000000#32))) bitsLt_bf16_f32) wo (constant S128x256 .f32 0x00000000#32)) bitsLt_bf16_f32

/-- The same rounding as the kernel's, of a sum to its stored form. -/
def trunc (v : FVec F S128x256 .f32) : FVec F S128x256 .bf16 := truncf .bf16 v bitsLt_bf16_f32
/-- A stored piece widened for adding. -/
def ext (v : FVec F S128x256 .bf16) : FVec F S128x256 .f32 := extf .f32 v bitsLt_bf16_f32

/-- The sum a device forms of its own rows: its own piece and those of the device two, three and one before it. -/
def redA (p : Dev nD → Fin 4 → FVec F S128x256 .bf16) (c : Dev nD) : FVec F S128x256 .f32 :=
  addf (addf (addf (ext (p c 0)) (ext (p (c - 2) 2))) (ext (p (c - 3) 3))) (ext (p (c - 1) 1))
/-- The sum a device forms of the rows of the device across. -/
def redB (p : Dev nD → Fin 4 → FVec F S128x256 .bf16) (c : Dev nD) : FVec F S128x256 .f32 :=
  addf (addf (addf (ext (p c 2)) (ext (p (c - 2) 0))) (ext (p (c - 3) 1))) (ext (p (c - 1) 3))

/-- The four row blocks a device enters the next layer with, out of the pieces of this one. -/
def next (p : Dev nD → Fin 4 → FVec F S128x256 .bf16) (c : Dev nD) (j : Fin 4) : FVec F S128x256 .bf16 :=
  match j with
  | 0 => trunc (redA p c)
  | 1 => trunc (redA p (c - 3))
  | 2 => trunc (redB p c)
  | 3 => trunc (redA p (c - 1))

variable (I : Inputs F)

/-- Block `j` of the input of layer `k` at device `c`. -/
def act : ℕ → Dev nD → Fin 4 → FVec F S128x256 .bf16
  | 0 => fun c j => rows (c + j) (I.x c)
  | k + 1 => next fun c j => mlp (I.wi k c) (I.wo k c) (act k c j)

/-- Device `c`'s piece of layer `k` on block `j`. -/
def piece (k : ℕ) (c : Dev nD) (j : Fin 4) : FVec F S128x256 .bf16 := mlp (I.wi k c) (I.wo k c) (act I k c j)

theorem act_succ (k : ℕ) (c : Dev nD) (j : Fin 4) : act I (k + 1) c j = next (piece I k) c j := rfl

/-! ## The channels -/

abbrev Ch : Type := (Fin 3 × Fin 6) ⊕ (Fin 2 × Fin 2)

instance : DecidableEq Ch := inferInstanceAs (DecidableEq ((Fin 3 × Fin 6) ⊕ (Fin 2 × Fin 2)))

/-- Whether the copy is made: the last layer only adds up a device's own rows. -/
def live : Ch → Bool
  | .inl (k, s) => k.val < 2 || s.val % 2 == 0
  | .inr _ => true

/-- How many devices ahead the copy goes. -/
def hop : Ch → Fin 4
  | .inl (_, s) => ![2, 2, 3, 3, 1, 1] s
  | .inr (_, s) => ![3, 1] s

/-- The relative row block a piece is of, at its sender. -/
def rho (s : Fin 6) : Fin 4 := ![2, 0, 3, 1, 1, 3] s

/-- The copies in the order they are started, which is the order their departures are waited for. -/
def ord : List Ch :=
  [.inl (0, 0), .inl (0, 1), .inl (0, 4), .inl (0, 3), .inl (0, 2), .inl (0, 5), .inr (0, 1), .inr (0, 0),
   .inl (1, 0), .inl (1, 1), .inl (1, 4), .inl (1, 3), .inl (1, 2), .inl (1, 5), .inr (1, 1), .inr (1, 0),
   .inl (2, 0), .inl (2, 4), .inl (2, 2)]

/-- The copies in the order their arrivals are waited for. -/
def rord : List Ch :=
  [.inl (0, 0), .inl (0, 2), .inl (0, 4), .inl (0, 1), .inl (0, 3), .inl (0, 5), .inr (0, 0), .inr (0, 1),
   .inl (1, 0), .inl (1, 2), .inl (1, 4), .inl (1, 1), .inl (1, 3), .inl (1, 5), .inr (1, 0), .inr (1, 1),
   .inl (2, 0), .inl (2, 2), .inl (2, 4)]

/-- The three copies of the last layer that are not made. -/
def dead : List Ch := [.inl (2, 1), .inl (2, 3), .inl (2, 5)]

/-! ## Windows of the scratch buffers -/

abbrev partM : Memref sig .tc .vmem S3x512x256 .bf16 := Memref.whole cc0_scratch0
abbrev pieceM : Memref sig .tc .vmem S3x6x128x256 .bf16 := Memref.whole cc0_scratch1
abbrev xinM : Memref sig .tc .vmem S2x2x128x256 .bf16 := Memref.whole cc0_scratch2
abbrev xoutM : Memref sig .tc .vmem S2x128x256 .bf16 := Memref.whole cc0_scratch3

abbrev partRect (k : Fin 3) (b : Fin 4) : Rect S3x512x256 :=
  Rect.unit (s := S3x512x256) ![k.val, 128 * b.val, 0] S1x128x256.size (by revert k b; decide)
abbrev pieceRect (p : Fin 3 × Fin 6) : Rect S3x6x128x256 :=
  Rect.unit (s := S3x6x128x256) ![p.1.val, p.2.val, 0, 0] S1x1x128x256.size (by revert p; decide)
abbrev xinRect (p : Fin 2 × Fin 2) : Rect S2x2x128x256 :=
  Rect.unit (s := S2x2x128x256) ![p.1.val, p.2.val, 0, 0] S1x1x128x256.size (by revert p; decide)
abbrev xoutRect (k : Fin 2) : Rect S2x128x256 :=
  Rect.unit (s := S2x128x256) ![k.val, 0, 0] S1x128x256.size (by revert k; decide)

/-- Row block `b` of the pieces of layer `k`, as a copy reads it. -/
abbrev partW (k : Fin 3) (b : Fin 4) : Memref sig .tc .vmem S128x256 .bf16 :=
  (partM.slice (partRect k b) (fun _ => rfl)).squeeze S128x256 squeezes_S1x128x256_S128x256
abbrev pieceW (p : Fin 3 × Fin 6) : Memref sig .tc .vmem S128x256 .bf16 :=
  (pieceM.slice (pieceRect p) (fun _ => rfl)).squeeze S128x256 squeezes_S1x1x128x256_S128x256
abbrev xinW (p : Fin 2 × Fin 2) : Memref sig .tc .vmem S128x256 .bf16 :=
  (xinM.slice (xinRect p) (fun _ => rfl)).squeeze S128x256 squeezes_S1x1x128x256_S128x256
abbrev xoutW (k : Fin 2) : Memref sig .tc .vmem S128x256 .bf16 :=
  (xoutM.slice (xoutRect k) (fun _ => rfl)).squeeze S128x256 squeezes_S1x128x256_S128x256

/-- Where device `c` sends from. -/
def srcM (c : Dev nD) : Ch → Memref sig .tc .vmem S128x256 .bf16
  | .inl (k, s) => partW k (c + rho s)
  | .inr (k, _) => xoutW k
/-- Where a copy lands. -/
def dstM : Ch → Memref sig .tc .vmem S128x256 .bf16
  | .inl p => pieceW p
  | .inr p => xinW p

/-- The half of the source window the copy holds while it is under way. -/
def shr : Ch → PosShare TreeShare
  | .inl (_, s) => if s.val = 3 ∨ s.val = 5 then fullShare.right else fullShare.left
  | .inr (_, s) => if s.val = 0 then fullShare.right else fullShare.left

/-- What the copy carries from device `c`. -/
def val (c : Dev nD) : Ch → FVec F S128x256 .bf16
  | .inl (k, s) => piece I k.val c (rho s)
  | .inr (k, _) => act I (k.val + 1) c 0

/-! ## The cells -/

/-- A device's cells: its barrier cell, and per channel the one raised when the copy has left (`false`) and when it
    has arrived (`true`). -/
abbrev Cel : Type := Option (Bool × Ch)

instance : DecidableEq Cel := inferInstanceAs (DecidableEq (Option (Bool × Ch)))

abbrev barS : Sem sig := (SemArray.scalar (sig.barrier 0 rfl) : Sems sig S_).sem

set_option backward.proofsInPublic true in
def sendS : Ch → DmaSem sig
  | .inl (k, s) => ⟨8 + (6 * k.val + s.val), by have := k.isLt; have := s.isLt; show _ < 52; omega⟩
  | .inr (k, s) => ⟨44 + (2 * k.val + s.val), by have := k.isLt; have := s.isLt; show _ < 52; omega⟩
set_option backward.proofsInPublic true in
def recvS : Ch → DmaSem sig
  | .inl (k, s) => ⟨26 + (6 * k.val + s.val), by have := k.isLt; have := s.isLt; show _ < 52; omega⟩
  | .inr (k, s) => ⟨48 + (2 * k.val + s.val), by have := k.isLt; have := s.isLt; show _ < 52; omega⟩

def semOf : Cel → SemLoc sig
  | none => .reg barS
  | some (false, ch) => .dma (sendS ch)
  | some (true, ch) => .dma (recvS ch)

theorem semOf_inj : Function.Injective semOf := by decide +kernel

abbrev barCell (c : Dev nD) : GSem nD τ sig := ((c : Thread nD τ), .reg barS)
abbrev sendCell (c : Dev nD) (ch : Ch) : GSem nD τ sig := ((c : Thread nD τ), .dma (sendS ch))
abbrev recvCell (c : Dev nD) (ch : Ch) : GSem nD τ sig := ((c : Thread nD τ), .dma (recvS ch))
abbrev cellAt (p : Dev nD × Cel) : GSem nD τ sig := ((p.1 : Thread nD τ), semOf p.2)

/-- Which of a device's cells a semaphore is, if any. -/
def dec (sm : SemLoc sig) : Option Cel := Function.partialInv semOf sm

theorem dec_semOf (x : Cel) : dec (semOf x) = some x := Function.partialInv_left semOf_inj x
theorem dec_bar : dec (.reg barS) = some none := dec_semOf none
theorem dec_send (ch : Ch) : dec (.dma (sendS ch)) = some (some (false, ch)) := dec_semOf (some (false, ch))
theorem dec_recv (ch : Ch) : dec (.dma (recvS ch)) = some (some (true, ch)) := dec_semOf (some (true, ch))

/-- What one landing credits. -/
def N (ch : Ch) : ℕ := (dstM ch).view.dmaCredit
theorem N_pos (ch : Ch) : 0 < N ch := View.dmaCredit_pos _ (by decide)

/-! ## The schedule -/

/-- A window of device `c` held in full at any contents. -/
def held (c : Dev nD) (ch : Ch) : sProp 𝕄 := iprop(∃ v, owns (c : Thread nD τ) (dstM ch) fullShare v)

/-- The copies going `d` devices ahead. -/
def ordTo (d : Fin 4) : List Ch := ord.filter fun ch => hop ch = d

/-- What the device `d` ahead of `c` gives with its barrier signal: its windows `c` sends into. -/
def barPay (c : Dev nD) (d : Fin 4) : sProp 𝕄 := bigSepL (ordTo d) fun ch => held (c + hop ch) ch
/-- What a departure gives back: the half of the source. -/
def sendPay (c : Dev nD) (ch : Ch) : sProp 𝕄 := owns (c : Thread nD τ) (srcM c ch) (shr ch) (val I c ch)
/-- What an arrival gives: the window, holding what the sender sent. -/
def recvPay (c : Dev nD) (ch : Ch) : sProp 𝕄 := owns (c : Thread nD τ) (dstM ch) fullShare (val I (c - hop ch) ch)

instance held_storable (c : Dev nD) (ch : Ch) : BI.Storable (upEmb : UEmb _ 𝕄) (held (F := F) c ch) := by unfold held; infer_instance
instance sendPay_storable (c : Dev nD) (ch : Ch) : BI.Storable (upEmb : UEmb _ 𝕄) (sendPay I c ch) := by unfold sendPay; infer_instance
instance recvPay_storable (c : Dev nD) (ch : Ch) : BI.Storable (upEmb : UEmb _ 𝕄) (recvPay I c ch) := by unfold recvPay; infer_instance

/-- A list of storable resources is storable. -/
theorem bigSepL_storable {α : Type} (l : List α) (Φ : α → sProp 𝕄) [∀ a, BI.Storable (upEmb : UEmb _ 𝕄) (Φ a)] :
    BI.Storable (upEmb : UEmb _ 𝕄) (bigSepL l Φ) := by
  induction l with
  | nil => rw [bigSepL_nil]; exact BI.Storable.emp _
  | cons a l ih => rw [bigSepL_cons']; infer_instance

instance barPay_storable (c : Dev nD) (d : Fin 4) : BI.Storable (upEmb : UEmb _ 𝕄) (barPay (F := F) c d) := bigSepL_storable _ _

/-- The duties of a cell's only round. -/
def dutiesOf : Cel → Finset (Fin 4)
  | none => {1, 2, 3}
  | some (_, ch) => if live ch then {0} else ∅

def amountAt : Cel → ℕ
  | none => 1
  | some (_, ch) => N ch

def payAt (c : Dev nD) (d : Fin 4) : Cel → sProp 𝕄
  | none => barPay c d
  | some (false, ch) => sendPay I c ch
  | some (true, ch) => recvPay I c ch

/-- One round. A barrier cell is raised by one by each of the other three devices; the two cells of a copy by the
    copy's bytes. -/
def sched : Rounds.Schedule (GSem nD τ sig) (Fin 4) 𝕄 where
  duties g r := if r = 0 ∧ g.1.2 = .tc then ((dec g.2).elim ∅ dutiesOf) else ∅
  unitless _ := False
  amount g _ _ := (dec g.2).elim 1 amountAt
  payload g _ d := (dec g.2).elim iprop(emp) (payAt I g.1.1 d)
  amount_pos g _ _ _ := by
    rcases dec g.2 with _ | _ | ⟨b, ch⟩
    · exact Nat.one_pos
    · exact Nat.one_pos
    · exact N_pos ch

instance payAt_storable (c : Dev nD) (d : Fin 4) (x : Cel) : BI.Storable (upEmb : UEmb _ 𝕄) (payAt I c d x) := by
  rcases x with _ | ⟨_ | _, ch⟩ <;> dsimp only [payAt] <;> infer_instance

instance sched_storable (g : GSem nD τ sig) (r : ℕ) (d : Fin 4) : BI.Storable (upEmb : UEmb _ 𝕄) ((sched I).payload g r d) := by
  show BI.Storable upEmb ((dec g.2).elim iprop(emp) (payAt I g.1.1 d))
  rcases dec g.2 with _ | x
  · show BI.Storable upEmb iprop(emp); infer_instance
  · show BI.Storable upEmb (payAt I g.1.1 d x); infer_instance

section Sched
variable (c : Dev nD) (x : Cel) (ch : Ch) (d : Fin 4)

theorem duties_cell : (sched I).duties (cellAt (c, x)) 0 = dutiesOf x := by
  dsimp only [sched]; rw [if_pos ⟨rfl, rfl⟩, dec_semOf]; rfl
theorem duties_later (g : GSem nD τ sig) : ∀ r, 1 ≤ r → (sched I).duties g r = ∅ :=
  fun r hr => if_neg fun h => by omega
theorem amount_cell (r : ℕ) : (sched I).amount (cellAt (c, x)) r d = amountAt x := by
  dsimp only [sched]; rw [dec_semOf]; rfl
theorem payload_cell (r : ℕ) : (sched I).payload (cellAt (c, x)) r d = payAt I c d x := by
  dsimp only [sched]; rw [dec_semOf]; rfl

theorem duties_bar : (sched I).duties (barCell c) 0 = {1, 2, 3} := duties_cell I c none
theorem duties_send (h : live ch = true) : (sched I).duties (sendCell c ch) 0 = {0} := (duties_cell I c (some (false, ch))).trans (if_pos h)
theorem duties_recv (h : live ch = true) : (sched I).duties (recvCell c ch) 0 = {0} := (duties_cell I c (some (true, ch))).trans (if_pos h)
theorem amount_bar : (sched I).amount (barCell c) 0 d = 1 := amount_cell I c none d 0
theorem amount_send : (sched I).amount (sendCell c ch) 0 d = N ch := amount_cell I c (some (false, ch)) d 0
theorem amount_recv : (sched I).amount (recvCell c ch) 0 d = N ch := amount_cell I c (some (true, ch)) d 0
theorem payload_bar : (sched I).payload (barCell c) 0 d = barPay c d := payload_cell I c none d 0
theorem payload_send : (sched I).payload (sendCell c ch) 0 d = sendPay I c ch := payload_cell I c (some (false, ch)) d 0
theorem payload_recv : (sched I).payload (recvCell c ch) 0 d = recvPay I c ch := payload_cell I c (some (true, ch)) d 0

theorem expect_bar : (sched I).expect (barCell c) 0 = 3 := by
  unfold Schedule.expect Schedule.amountOf
  rw [duties_bar, Finset.sum_congr rfl fun d _ => amount_bar I c d, Finset.sum_const]; rfl
theorem expect_send (h : live ch = true) : (sched I).expect (sendCell c ch) 0 = N ch := by
  unfold Schedule.expect Schedule.amountOf
  rw [duties_send I c ch h, Finset.sum_singleton, amount_send]
theorem expect_recv (h : live ch = true) : (sched I).expect (recvCell c ch) 0 = N ch := by
  unfold Schedule.expect Schedule.amountOf
  rw [duties_recv I c ch h, Finset.sum_singleton, amount_recv]

/-- What a barrier wait hands over. -/
theorem rest_bar : bigSep ((sched I).duties (barCell c) 0 \ ∅) (fun d => (sched I).payload (barCell c) 0 d)
    = iprop(barPay c 1 ∗ barPay c 2 ∗ barPay c 3) := by
  rw [Finset.sdiff_empty, duties_bar, bigSep_congr fun d _ => payload_bar I c d,
    bigSep_eq_bigSepL_of_eq [1, 2, 3] (by decide) (by decide), bigSepL_cons_cons, bigSepL_cons_cons, bigSepL_singleton]
  rfl
/-- What the wait for a departure hands over. -/
theorem rest_send (h : live ch = true) :
    bigSep ((sched I).duties (sendCell c ch) 0 \ ∅) (fun d => (sched I).payload (sendCell c ch) 0 d) = sendPay I c ch := by
  rw [Finset.sdiff_empty, duties_send I c ch h, bigSep_singleton, payload_send]
/-- What the wait for an arrival hands over. -/
theorem rest_recv (h : live ch = true) :
    bigSep ((sched I).duties (recvCell c ch) 0 \ ∅) (fun d => (sched I).payload (recvCell c ch) 0 d) = recvPay I c ch := by
  rw [Finset.sdiff_empty, duties_recv I c ch h, bigSep_singleton, payload_recv]

end Sched

/-! ## What a device owes, and the levels -/

/-- The arrivals a device still owes, the copies `l` not yet started. -/
def Ow (c : Dev nD) : List Ch → CellTallies nD τ sig Unit
  | [] => 0
  | ch :: l => Ow c l + tallyAt (recvCell (c + hop ch) ch) () (N ch)

/-- At the launch a device owes besides its three barrier signals. -/
def owe2 (c : Dev nD) : CellTallies nD τ sig Unit := Ow c ord + tallyAt (barCell (c + 3)) () 1
def owe1 (c : Dev nD) : CellTallies nD τ sig Unit := owe2 c + tallyAt (barCell (c + 2)) () 1
def owe0 (c : Dev nD) : CellTallies nD τ sig Unit := owe1 c + tallyAt (barCell (c + 1)) () 1

def LL (g : GSem nD τ sig) : Finset Unit := if g.1.2 = .tc then {()} else ∅

/-- The level of an arrival: the order in which a device waits, layer by layer. -/
def chLv : Ch → ℕ
  | .inl (k, _) => 2 * k.val + 2
  | .inr (k, _) => 2 * k.val + 3
def celLv : Cel → ℕ
  | none => 1
  | some (false, _) => 0
  | some (true, ch) => chLv ch
def lv (g : GSem nD τ sig) (_ : Unit) : ℕ := (dec g.2).elim 0 celLv

theorem LL_of_ne (g : GSem nD τ sig) (h : g.1.2 ≠ .tc) : LL g = ∅ := if_neg h
theorem LL_tc (c : Dev nD) (sm : SemLoc sig) : LL ((c : Thread nD τ), sm) = {()} := if_pos rfl
theorem lv_cell (c : Dev nD) (x : Cel) (u : Unit) : lv (cellAt (c, x)) u = celLv x := by dsimp only [lv]; rw [dec_semOf]; rfl

theorem tally_pos {g g' : GSem nD τ sig} {u : Unit} {n : ℕ} (h : 0 < tallyAt (Ix := Unit) g' () n g u) : g = g' := by
  rw [tallyAt_apply] at h
  by_contra hn
  rw [if_neg (fun h' => hn h'.1)] at h
  exact Nat.lt_irrefl 0 h

theorem Ow_pos (c : Dev nD) (l : List Ch) {g : GSem nD τ sig} {u : Unit} (h : 0 < Ow c l g u) :
    ∃ ch ∈ l, g = cellAt (c + hop ch, some (true, ch)) := by
  induction l with
  | nil => exact absurd h (Nat.lt_irrefl 0)
  | cons a l ih =>
    rw [Ow, Pi.add_apply, Finsupp.add_apply] at h
    rcases Nat.add_pos_iff_pos_or_pos.mp h with h | h
    · obtain ⟨ch, hm, hg⟩ := ih h; exact ⟨ch, List.mem_cons_of_mem _ hm, hg⟩
    · exact ⟨a, List.mem_cons_self, tally_pos h⟩

theorem owe0_pos (c : Dev nD) {g : GSem nD τ sig} {u : Unit} (h : 0 < owe0 c g u) :
    (∃ ch ∈ ord, g = cellAt (c + hop ch, some (true, ch))) ∨ ∃ e : Dev nD, g = cellAt (e, none) := by
  unfold owe0 owe1 owe2 at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (Ow_pos c ord h)
      · exact .inr ⟨_, tally_pos h⟩
    · exact .inr ⟨_, tally_pos h⟩
  · exact .inr ⟨_, tally_pos h⟩

/-- A wait is allowed when every arrival still owed is of a higher level. -/
theorem mayWait_cell (c : Dev nD) (x : Cel) (l : List Ch) (h : ∀ ch ∈ l, celLv x < chLv ch) :
    (levAts LL lv : sProp 𝕄) ⊢ MayWait (c : Thread nD τ) (semOf x) () (Ow c l) := by
  refine MayOwe.of_cut (L := LL) (lev := lv) (celLv x) (fun p hp => by rw [Finset.mem_singleton.mp hp, LL_tc]; exact Finset.mem_singleton_self _)
    (fun g u hg => by obtain ⟨ch, -, rfl⟩ := Ow_pos c l hg; exact Finset.mem_singleton_self _)
    (fun p hp => by rw [Finset.mem_singleton.mp hp]; exact (lv_cell c x ()).le)
    (fun g u hg => by obtain ⟨ch, hm, rfl⟩ := Ow_pos c l hg; rw [lv_cell]; exact h ch hm)

/-- The pipeline's own waits, on semaphores that are none of the exchange's, are allowed from the start to the end. -/
theorem mayWait_stage (c : Dev nD) (q : DmaSem sig) (hq : ∀ x, semOf x ≠ .dma q) (O : CellTallies nD τ sig Unit) (hO : O = owe0 c ∨ O = 0) :
    (levAts LL lv : sProp 𝕄) ⊢ MayWait (c : Thread nD τ) (.dma q) () O := by
  rcases hO with rfl | rfl
  · have hd : dec (.dma q) = none := dif_neg fun ⟨x, hx⟩ => hq x hx
    refine MayOwe.of_cut (L := LL) (lev := lv) 0 (fun p hp => by rw [Finset.mem_singleton.mp hp, LL_tc]; exact Finset.mem_singleton_self _)
      (fun g u hg => by rcases owe0_pos c hg with ⟨ch, -, rfl⟩ | ⟨e, rfl⟩ <;> exact Finset.mem_singleton_self _)
      (fun p hp => by rw [Finset.mem_singleton.mp hp]; dsimp only [lv]; rw [hd]; exact Nat.le_refl 0)
      (fun g u hg => by
        rcases owe0_pos c hg with ⟨ch, -, rfl⟩ | ⟨e, rfl⟩
        · rw [lv_cell]; rcases ch with ⟨k, s⟩ | ⟨k, s⟩ <;> exact Nat.succ_pos _
        · rw [lv_cell]; exact Nat.one_pos)
  · rw [MayWait_zero]; iintro -; iempintro

end Cert.Mlp
-- ==== Proof.Steps.lean ====
/-
# One rule per kind of step

The rules below carry one device's exchange state (`core`) across a barrier signal, the barrier wait, the start of a
copy, the wait for an arrival and the wait for a departure, and read and write the windows a device holds. Everything
a printed operation spells its own way (a device, a semaphore, an offset) is a variable with an equation.
-/
module

public import proofs.«01_k».proof.Proof.Common

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A device's program run to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of resources -/

section Lists

variable {M : Type} [URA M]

theorem sepA (P R S : sProp M) : iprop((P ∗ R) ∗ S) = iprop(P ∗ R ∗ S) := equiv_iff.mp ⟨BI.sep_assoc, BI.sep_assoc'⟩
theorem sepC (P R : sProp M) : iprop(P ∗ R) = iprop(R ∗ P) := equiv_iff.mp ⟨BI.sep_comm, BI.sep_comm⟩
theorem sepE (P : sProp M) : iprop(emp ∗ P) = P := equiv_iff.mp BI.emp_sep

variable {α : Type} (Φ Ψ : α → sProp M)

/-- One member taken out, to be given back. -/
theorem listSep_mem {l : List α} {a : α} (h : a ∈ l) : bigSepL l Φ ⊢ iprop(Φ a ∗ (Φ a -∗ bigSepL l Φ)) := by
  induction l with
  | nil => exact absurd h List.not_mem_nil
  | cons b l ih =>
    rw [bigSepL_cons']
    rcases List.mem_cons.mp h with rfl | h
    · iintro ⟨Ha, Hl⟩
      isplitl [Ha]; · iexact Ha
      iintro Ha
      isplitl [Ha] <;> iassumption
    · iintro ⟨Hb, Hl⟩
      ihave H := (ih h) $$ Hl
      icases H with ⟨Ha, Hl⟩
      isplitl [Ha]; · iexact Ha
      iintro Ha
      isplitl [Hb]; · iexact Hb
      iapply Hl; iexact Ha

theorem listSep_mono_mem {l : List α} (h : ∀ a ∈ l, Φ a ⊢ Ψ a) : bigSepL l Φ ⊢ bigSepL l Ψ := by
  induction l with
  | nil => exact BI.Entails.refl _
  | cons b l ih =>
    rw [bigSepL_cons', bigSepL_cons']
    exact BIClass.sep_mono (h b List.mem_cons_self) (ih fun a ha => h a (List.mem_cons_of_mem _ ha))

/-- A permuted list holds the same. -/
theorem listSep_perm {l l' : List α} (h : l.Perm l') : bigSepL l Φ = bigSepL l' Φ := by
  induction h with
  | nil => rfl
  | cons a _ ih => rw [bigSepL_cons', bigSepL_cons', ih]
  | swap a b l =>
    rw [bigSepL_cons', bigSepL_cons', bigSepL_cons', bigSepL_cons', ← sepA, ← sepA, sepC (Φ b)]
  | trans _ _ h₁ h₂ => exact h₁.trans h₂

theorem listSep_snoc (l : List α) (a : α) : bigSepL (l ++ [a]) Φ = iprop(bigSepL l Φ ∗ Φ a) := by
  rw [bigSepL_append, bigSepL_singleton]

theorem listSep_sep (l : List α) : bigSepL l (fun a => iprop(Φ a ∗ Ψ a)) = iprop(bigSepL l Φ ∗ bigSepL l Ψ) := by
  induction l with
  | nil => rw [bigSepL_nil, bigSepL_nil, bigSepL_nil]; exact (sepE _).symm
  | cons a l ih =>
    rw [bigSepL_cons', bigSepL_cons', bigSepL_cons', ih]
    rw [sepA, sepA, ← sepA (Ψ a), ← sepA (bigSepL l Φ), sepC (Ψ a)]

end Lists

theorem dev_add_sub (c : Dev nD) (d : Fin 4) : c + d - d = c := by revert c d; decide

/-! ## The exchange state of one device -/

variable (I : Inputs F) (K : Dev nD × Cel → ℕ) (c : Dev nD)

/-- What every device knows throughout: the levels, every cell's invariant, every cell's round 0 reached. -/
def recs : sProp 𝕄 :=
  iprop(levAts LL lv ∗ (bigSep Finset.univ fun p : Dev nD × Cel => cellInv ER (sched I) (K p) (cellAt p))
    ∗ bigSep Finset.univ fun p : Dev nD × Cel => reached ER (cellAt p) 0)

instance recs_persistent : BI.Persistent (recs I K) := by unfold recs; infer_instance

theorem recs_lev : recs I K ⊢ levAts LL lv := by unfold recs; iintro ⟨H, -⟩; iexact H
theorem recs_inv (p : Dev nD × Cel) : recs I K ⊢ cellInv ER (sched I) (K p) (cellAt p) := by
  unfold recs; iintro ⟨-, H, -⟩
  have h : (bigSep Finset.univ fun p : Dev nD × Cel => cellInv ER (sched I) (K p) (cellAt p)) ⊢ cellInv ER (sched I) (K p) (cellAt p) := BI.bigSep_elim (Finset.mem_univ p)
  iapply h $$ H
theorem recs_reached (p : Dev nD × Cel) : recs I K ⊢ reached ER (cellAt p) 0 := by
  unfold recs; iintro ⟨-, -, H⟩
  have h : (bigSep Finset.univ fun p : Dev nD × Cel => (reached ER (cellAt p) 0 : sProp 𝕄)) ⊢ (reached ER (cellAt p) 0 : sProp 𝕄) := BI.bigSep_elim (Finset.mem_univ p)
  iapply h $$ H

/-- A copy not yet started: the two duties it pays, the place at its departure cell, the window it lands in. -/
def toSend (ch : Ch) : sProp 𝕄 :=
  iprop(dutyTok ER (sendCell c ch) 0 0 ∗ dutyTok ER (recvCell (c + hop ch) ch) 0 0 ∗ atPos ER (sendCell c ch) 0 ∅ 0 ∗ held (c + hop ch) ch)
/-- A copy started: the place at its departure cell and the credit to wait for it. -/
def pend (ch : Ch) : sProp 𝕄 := iprop(atPos ER (sendCell c ch) 0 ∅ 0 ∗ cred (tallyAt (sendCell c ch) () (N ch)))
/-- A copy that has left: the half of its source is back. -/
def back (ch : Ch) : sProp 𝕄 := iprop(atPos ER (sendCell c ch) 1 ∅ 0 ∗ sendPay I c ch)
/-- A copy not yet arrived. -/
def toRecv (ch : Ch) : sProp 𝕄 := iprop(atPos ER (recvCell c ch) 0 ∅ 0 ∗ cred (tallyAt (recvCell c ch) () (N ch)))
/-- A copy that has arrived: the window holds what was sent. -/
def got (ch : Ch) : sProp 𝕄 := iprop(atPos ER (recvCell c ch) 1 ∅ 0 ∗ recvPay I c ch)

/-- The state after `n` copies started, `r` arrivals and `w` departures waited for. -/
def core (n r w : ℕ) : sProp 𝕄 :=
  iprop(recs I K ∗ (∃ W, owes (c : Thread nD τ) (Ow c (ord.drop n)) W)
    ∗ bigSepL (ord.drop n) (toSend c) ∗ bigSepL ((ord.take n).drop w) (pend c) ∗ bigSepL (ord.take w) (back I c)
    ∗ bigSepL (rord.drop r) (toRecv c) ∗ bigSepL (rord.take r) (got I c))

variable {α : Type}

/-- A barrier signal to the device `4 - d` ahead, of which this one is `d` ahead: the windows that device sends into. -/
theorem step_signal (d : Fin 4) (hd : d = 1 ∨ d = 2 ∨ d = 3) (dev e : Dev nD) (hdev : dev = e) (hce : e + d = c)
    (O₀ O : CellTallies nD τ sig Unit) (hO : O₀ = O + tallyAt (barCell e) () 1) {amt : ℕ} (hamt : amt = 1)
    {k : PUnit → Prog (TpuEff nD τ sig (Elt F) Λ₀ .tc) α} {Q : α → sProp 𝕄} :
    iprop(recs I K ∗ (∃ W, owes (c : Thread nD τ) O₀ W) ∗ dutyTok ER (barCell e) 0 d ∗ bigSepL (ordTo d) (held c))
      ⊢ iprop(((∃ W, owes (c : Thread nD τ) O W) -∗ WP c (k ⟨⟩) Q) -∗ WP c (.op (.semSignal (Dev.tc dev : Thread nD τ) barS amt) k) Q) := by
  subst hdev hamt
  iintro ⟨#HR, ⟨%W, HO⟩, Ht, Hw⟩ Hk
  iapply (Rounds.wp_signal 𝒱₀ ER (sched I) (c : Thread nD τ) none (dst := (dev : Thread nD τ)) (sem := barS) (κ := K (dev, none)) (r := 0)
    (d := d) (by rw [duties_bar]; rcases hd with rfl | rfl | rfl <;> decide)
    (amount_bar I dev d) () O hO (W := W)) $$ [HO Ht Hw]
  · isplitr; · iapply (recs_inv I K (dev, none)); iexact HR
    isplitl [HO]; · iexact HO
    isplitl [Ht]; · iexact Ht
    isplitl [Hw]
    · rw [payload_bar]
      istop
      unfold barPay
      iintro ⟨-, H⟩
      irevert H
      refine BI.Laws.entails_wand ?_
      refine listSep_mono_mem _ _ fun ch hch => ?_
      have : hop ch = d := by have := (List.mem_filter.mp hch).2; simpa using this
      rw [this, hce]
    iapply (recs_reached I K (dev, none)); iexact HR
  iintro HO
  iapply Hk; iexists W; iexact HO

/-- The barrier wait: every window this device sends into is its to write. -/
theorem step_wait_bar {amt : ℕ} (hamt : amt = 3) {k : PUnit → Prog (TpuEff nD τ sig (Elt F) Λ₀ .tc) α} {Q : α → sProp 𝕄} :
    iprop(recs I K ∗ (∃ W, owes (c : Thread nD τ) (Ow c ord) W) ∗ atPos ER (barCell c) 0 ∅ 0 ∗ cred (tallyAt (barCell c) () 3))
      ⊢ iprop(((∃ W, owes (c : Thread nD τ) (Ow c ord) W) ∗ atPos ER (barCell c) 1 ∅ 0 ∗ (bigSepL ord fun ch => held (c + hop ch) ch) -∗ WP c (k ⟨⟩) Q)
        -∗ WP c (.op (.semWait barS amt) k) Q) := by
  subst hamt
  iintro ⟨#HR, ⟨%W, HO⟩, Hat, Hc⟩ Hk
  iapply (Rounds.wp_wait_rest_token 𝒱₀ ER (sched I) (c : Thread nD τ) none (κ := K (c, none))
    (wpE_semWait_eq 𝒱₀ (c : Thread nD τ) none Set.univ) (Set.mem_univ _) () (O := Ow c ord) (W := W) (R := 0) (m := 0) (T := ∅)
    (by rw [expect_bar])) $$ [HO Hat Hc]
  · isplitr; · iapply (recs_inv I K (c, none)); iexact HR
    isplitl [Hc]; · iexact Hc
    isplitl [HO]; · iexact HO
    isplitr
    · iapply (mayWait_cell c none ord (by decide)); iapply (recs_lev I K); iexact HR
    iexact Hat
  iintro ⟨HO, Hat, -, Hpay⟩
  have hall : iprop(barPay c 1 ∗ barPay c 2 ∗ barPay c 3) = bigSepL ord fun ch => held (F := F) (c + hop ch) ch := by
    unfold barPay
    rw [← bigSepL_append, ← bigSepL_append]
    exact listSep_perm _ (by decide)
  ihave Hp := (Entails.of_eq ((rest_bar I c).trans hall)) $$ Hpay
  iapply Hk
  isplitl [HO]; · iexists _; iexact HO
  isplitl [Hat]; · iexact Hat
  iexact Hp

/-- Starting a copy. -/
theorem step_send (n r w : ℕ) (ch : Ch) (h₁ : ord.drop n = ch :: ord.drop (n + 1)) (h₂ : (ord.take (n + 1)).drop w = (ord.take n).drop w ++ [ch])
    (hl : live ch = true)
    {src dst : Memref sig .tc .vmem S128x256 .bf16} {dev : Dev nD} {sS rS : DmaSem sig}
    (hsrc : src = srcM c ch) (hdst : dst = dstM ch) (hdev : dev = c + hop ch) (hs : sS = sendS ch) (hr : rS = recvS ch)
    {hsc : (dst : Memref sig (Dev.tc dev : Thread nD τ).2.kind .vmem S128x256 .bf16).view.ref.isScScratch = false} {hx : src.view.WordExact} {hy : dst.view.WordExact}
    {hsem : DmaTarget.Typed .vmem (.dma rS) (.remote (Dev.tc dev : Thread nD τ) dst (.dma sS) hsc)}
    {k : PUnit → Prog (TpuEff nD τ sig (Elt F) Λ₀ .tc) α} {Q : α → sProp 𝕄} :
    iprop(core I K c n r w ∗ sendPay I c ch)
      ⊢ iprop((core I K c (n + 1) r w -∗ WP c (k ⟨⟩) Q)
        -∗ WP c (.op (.enqueueDma src (.remote (Dev.tc dev : Thread nD τ) dst (.dma sS) hsc) (.dma rS) hx hy hsem) k) Q) := by
  subst hsrc hdst hdev hs hr
  unfold core
  rw [h₁, h₂, bigSepL_cons', listSep_snoc]
  unfold toSend held sendPay owns
  iintro ⟨⟨#HR, ⟨%W, HO⟩, ⟨⟨Ht₁, Ht₂, Hat, ⟨%v, %fd, -, Hd⟩⟩, Hts⟩, Hp, Hb, Htr, Hg⟩, ⟨%fs, %hfs, Hs⟩⟩ Hk
  iapply (Rounds.wp_send_pointsTo 𝒱₀ ER (sched I) (c : Thread nD τ) none (κ₁ := K (c, some (false, ch))) (κ₂ := K (c + hop ch, some (true, ch)))
    (c' := ((c + hop ch : Dev nD) : Thread nD τ)) (src := srcM c ch) (dst := dstM ch) (sS := .dma (sendS ch)) (sem := .dma (recvS ch))
    (r₁ := 0) (r₂ := 0) (d₁ := 0) (d₂ := 0) (fd := fd) (fs := fs) (q := shr ch)
    (by rw [duties_send I c ch hl]; exact Finset.mem_singleton_self _)
    (by rw [duties_recv I _ ch hl]; exact Finset.mem_singleton_self _)
    () () (N ch) rfl (amount_send I c ch 0) (amount_recv I (c + hop ch) ch 0)
    (Ow c (ord.drop (n + 1))) rfl (W := W)
    (by
      rw [payload_send]
      unfold sendPay owns
      iintro H; iexists fs; isplitr; · ipureintro; exact hfs
      iexact H)
    (by
      rw [payload_recv]
      unfold recvPay owns
      iintro H; iexists ((dstM ch).view.write (Elt F) fd ((srcM c ch).view.read (Elt F) fs) Finset.univ); isplitr
      · ipureintro
        rw [View.read_write_univ, hfs, dev_add_sub]
      iexact H)) $$ [HO Ht₁ Ht₂ Hd Hs]
  · isplitr; · iapply (recs_inv I K (c, some (false, ch))); iexact HR
    isplitr; · iapply (recs_inv I K (c + hop ch, some (true, ch))); iexact HR
    isplitl [Hs]; · iexact Hs
    isplitl [Hd]; · iexact Hd
    isplitl [HO]; · iexact HO
    isplitl [Ht₁]; · iexact Ht₁
    isplitr; · iapply (recs_reached I K (c, some (false, ch))); iexact HR
    isplitl [Ht₂]; · iexact Ht₂
    iapply (recs_reached I K (c + hop ch, some (true, ch))); iexact HR
  iintro ⟨Hc, HO⟩
  iapply Hk
  isplitr; · iexact HR
  isplitl [HO]; · iexists W; iexact HO
  isplitl [Hts]; · iexact Hts
  isplitl [Hp Hat Hc]
  · isplitl [Hp]; · iexact Hp
    unfold pend
    isplitl [Hat] <;> iassumption
  isplitl [Hb]; · iexact Hb
  isplitl [Htr] <;> iassumption

/-- Waiting for an arrival. -/
theorem step_recv (n r w : ℕ) (ch : Ch) (h₁ : rord.drop r = ch :: rord.drop (r + 1)) (h₂ : rord.take (r + 1) = rord.take r ++ [ch])
    (hl : live ch = true) (hlv : ∀ ch' ∈ ord.drop n, chLv ch < chLv ch')
    {sm : DmaSem sig} (hs : sm = recvS ch) {sp sp' : Space} {s s' : Shape} {e e' : EltTy}
    {a : Memref sig (c : Thread nD τ).2.kind sp' s' e'} {b : Memref sig .tc sp s e} (hb : b.view.dmaCredit = N ch)
    {hx : a.view.WordExact} {hy : b.view.WordExact}
    {k : PUnit → Prog (TpuEff nD τ sig (Elt F) Λ₀ .tc) α} {Q : α → sProp 𝕄} :
    core I K c n r w
      ⊢ iprop((core I K c n (r + 1) w -∗ WP c (k ⟨⟩) Q) -∗ WP c (.op (.waitDma2 sm a b hx hy) k) Q) := by
  subst hs
  unfold core
  rw [h₁, h₂, bigSepL_cons', listSep_snoc]
  unfold toRecv
  iintro ⟨#HR, ⟨%W, HO⟩, Hts, Hp, Hb, ⟨⟨Hat, Hc⟩, Htr⟩, Hg⟩ Hk
  iapply (Rounds.wp_wait_rest_token 𝒱₀ ER (sched I) (c : Thread nD τ) none (κ := K (c, some (true, ch)))
    (sm := .dma (recvS ch)) (k' := N ch)
    (fun Kt => by rw [wpE_waitDma2_eq 𝒱₀ (c : Thread nD τ) none Set.univ, hb]) (Set.mem_univ _) () (O := Ow c (ord.drop n)) (W := W) (R := 0) (m := 0) (T := ∅)
    (by rw [Nat.zero_add, expect_recv I c ch hl])) $$ [HO Hat Hc]
  · isplitr; · iapply (recs_inv I K (c, some (true, ch))); iexact HR
    isplitl [Hc]; · iexact Hc
    isplitl [HO]; · iexact HO
    isplitr
    · iapply (mayWait_cell c (some (true, ch)) (ord.drop n) hlv); iapply (recs_lev I K); iexact HR
    iexact Hat
  iintro ⟨HO, Hat, -, Hpay⟩
  ihave Hp' := (Entails.of_eq (rest_recv I c ch hl)) $$ Hpay
  iapply Hk
  isplitr; · iexact HR
  isplitl [HO]; · iexists _; iexact HO
  isplitl [Hts]; · iexact Hts
  isplitl [Hp]; · iexact Hp
  isplitl [Hb]; · iexact Hb
  isplitl [Htr]; · iexact Htr
  isplitl [Hg]; · iexact Hg
  unfold got
  isplitl [Hat]; · iexact Hat
  iexact Hp'

/-- Waiting for a departure, every copy started. -/
theorem step_left (r w : ℕ) (ch : Ch) (h₁ : (ord.take 19).drop w = ch :: (ord.take 19).drop (w + 1)) (h₂ : ord.take (w + 1) = ord.take w ++ [ch])
    (hl : live ch = true)
    {sm : DmaSem sig} (hs : sm = sendS ch) {sp sp' : Space} {s s' : Shape} {e e' : EltTy}
    {a : Memref sig (c : Thread nD τ).2.kind sp' s' e'} {b : Memref sig .tc sp s e} (hb : b.view.dmaCredit = N ch)
    {hx : a.view.WordExact} {hy : b.view.WordExact}
    {k : PUnit → Prog (TpuEff nD τ sig (Elt F) Λ₀ .tc) α} {Q : α → sProp 𝕄} :
    core I K c 19 r w
      ⊢ iprop((core I K c 19 r (w + 1) -∗ WP c (k ⟨⟩) Q) -∗ WP c (.op (.waitDma2 sm a b hx hy) k) Q) := by
  subst hs
  unfold core
  rw [h₁, h₂, bigSepL_cons', listSep_snoc]
  unfold pend
  iintro ⟨#HR, ⟨%W, HO⟩, Hts, ⟨⟨Hat, Hc⟩, Hp⟩, Hb, Htr, Hg⟩ Hk
  iapply (Rounds.wp_wait_rest_token 𝒱₀ ER (sched I) (c : Thread nD τ) none (κ := K (c, some (false, ch)))
    (sm := .dma (sendS ch)) (k' := N ch)
    (fun Kt => by rw [wpE_waitDma2_eq 𝒱₀ (c : Thread nD τ) none Set.univ, hb]) (Set.mem_univ _) () (O := Ow c (ord.drop 19)) (W := W) (R := 0) (m := 0) (T := ∅)
    (by rw [Nat.zero_add, expect_send I c ch hl])) $$ [HO Hat Hc]
  · isplitr; · iapply (recs_inv I K (c, some (false, ch))); iexact HR
    isplitl [Hc]; · iexact Hc
    isplitl [HO]; · iexact HO
    isplitr
    · iapply (mayWait_cell c (some (false, ch)) (ord.drop 19) (fun ch' h => by rw [show ord.drop 19 = [] from rfl] at h; cases h)); iapply (recs_lev I K); iexact HR
    iexact Hat
  iintro ⟨HO, Hat, -, Hpay⟩
  ihave Hp' := (Entails.of_eq (rest_send I c ch hl)) $$ Hpay
  iapply Hk
  isplitr; · iexact HR
  isplitl [HO]; · iexists _; iexact HO
  isplitl [Hts]; · iexact Hts
  isplitl [Hp]; · iexact Hp
  isplitl [Hb Hat Hp']
  · isplitl [Hb]; · iexact Hb
    unfold back
    isplitl [Hat]; · iexact Hat
    iexact Hp'
  isplitl [Htr] <;> iassumption

/-! ## Windows read and written -/

/-- A load through the rectangle of a window that is held squeezed gives the window's value in the rectangle's shape. -/
theorem load_win {s t : Shape} {e : EltTy} (M : Memref sig .tc .vmem s e) (rr : Rect s) (hr : ∀ a, rr.stride a = 1) (hsq : rr.shape.Squeezes t)
    (h : t.ShapeCasts rr.shape) {q : PosShare TreeShare} {v : t.Idx → Elt F e} {hl : M.view.LoadsAt rr.toLoadRect}
    {k : (rr.shape.Idx → Elt F e) → Prog (TpuEff nD τ sig (Elt F) Λ₀ .tc) α} {Q : α → sProp 𝕄} :
    owns (c : Thread nD τ) ((M.slice rr hr).squeeze t hsq) q v
      ⊢ iprop((owns (c : Thread nD τ) ((M.slice rr hr).squeeze t hsq) q v -∗ WP c (k (shapeCast rr.shape v h)) Q)
        -∗ WP c (.op (.load M rr.toLoadRect hl) k) Q) := by
  unfold owns
  iintro ⟨%f, %hf, H⟩ Hk
  subst hf
  have hset : ((M.slice rr hr).squeeze t hsq).view.set = (M.access rr).set := View.set_reshape _ _
  rw [hset]
  iapply (wp_load_rect 𝒱₀ (c : Thread nD τ) none Set.univ (m := M) (r := rr) (Finset.Subset.refl _)) $$ H
  iintro H
  have hv : (M.access rr).read (Elt F) f = shapeCast rr.shape (((M.slice rr hr).squeeze t hsq).view.read (Elt F) f) h :=
    (shapeCast_shapeCast (s := rr.shape) (t := t) ((M.access rr).read (Elt F) f) hsq.numel_eq h).symm
  rw [hv]
  iapply Hk
  iexists f
  isplitr; · (ipureintro; rfl)
  iexact H

/-- A store through the rectangle of a window held whole. -/
theorem store_win {s t : Shape} {e : EltTy} (M : Memref sig .tc .vmem s e) (rr : Rect s) (hr : ∀ a, rr.stride a = 1) (hsq : rr.shape.Squeezes t)
    (h : t.ShapeCasts rr.shape) (v : t.Idx → Elt F e) {pay : rr.shape.Idx → Elt F e} (hpay : pay = shapeCast rr.shape v h)
    {hx : (M.access rr).Stores Finset.univ} {hm : (Finset.univ : Finset rr.shape.Idx) = Finset.univ ∨ ∀ a, rr.stride a = 1}
    {k : PUnit → Prog (TpuEff nD τ sig (Elt F) Λ₀ .tc) α} {Q : α → sProp 𝕄} :
    iprop(∃ v₀, owns (c : Thread nD τ) ((M.slice rr hr).squeeze t hsq) fullShare v₀)
      ⊢ iprop((owns (c : Thread nD τ) ((M.slice rr hr).squeeze t hsq) fullShare v -∗ WP c (k ⟨⟩) Q)
        -∗ WP c (.op (.store M rr pay Finset.univ hx hm) k) Q) := by
  subst hpay
  unfold owns
  iintro ⟨%v₀, %f, -, H⟩ Hk
  have hset : ((M.slice rr hr).squeeze t hsq).view.set = (M.access rr).set := View.set_reshape _ _
  rw [hset]
  iapply (wp_store 𝒱₀ (c : Thread nD τ) none Set.univ (m := M) (r := rr) (Mk := Finset.univ) (by rw [View.setOn_univ])) $$ H
  iintro H
  iapply Hk
  iexists _
  isplitr
  · ipureintro
    show shapeCast t ((M.access rr).read (Elt F) ((M.access rr).write (Elt F) f (shapeCast rr.shape v h) Finset.univ)) hsq.numel_eq = v
    rw [View.read_write_univ, shapeCast_shapeCast]
  iexact H

/-- A window in two halves. -/
theorem owns_halves (m : Memref sig .tc .vmem S128x256 .bf16) (v : S128x256.Idx → Elt F .bf16) :
    (owns (c : Thread nD τ) m fullShare v : sProp 𝕄) ⊢ iprop(owns (c : Thread nD τ) m fullShare.left v ∗ owns (c : Thread nD τ) m fullShare.right v) := by
  unfold owns
  iintro ⟨%f, %hf, H⟩
  ihave H := (pointsTo_share (PosShare.mem_left_op_right fullShare)).1 $$ H
  icases H with ⟨H₁, H₂⟩
  isplitl [H₁]
  · iexists f; isplitr; · ipureintro; exact hf
    iexact H₁
  · iexists f; isplitr; · ipureintro; exact hf
    iexact H₂

/-! ## The same at the windows of the kernel -/

theorem part_src (k : Fin 3) (b : Fin 4) {off : Fin 3 → ℕ} {inb : ∀ a, off a + S1x128x256.size a ≤ S3x512x256.size a}
    (hoff : off = ![k.val, 128 * b.val, 0]) :
    (partM.slice (Rect.unit (s := S3x512x256) off S1x128x256.size inb) (fun _ => rfl)).squeeze S128x256 squeezes_S1x128x256_S128x256 = partW k b := by
  subst hoff; rfl

theorem load_part (k : Fin 3) (b : Fin 4) {off : Fin 3 → ℕ} {inb : ∀ a, off a + S1x128x256.size a ≤ S3x512x256.size a}
    (hoff : off = ![k.val, 128 * b.val, 0]) {q : PosShare TreeShare} {v : FVec F S128x256 .bf16}
    {hl : partM.view.LoadsAt (Rect.unit (s := S3x512x256) off S1x128x256.size inb).toLoadRect}
    {kt : Vec F S1x128x256 .bf16 → Prog (TpuEff nD τ sig (Elt F) Λ₀ .tc) α} {Q : α → sProp 𝕄} :
    owns (c : Thread nD τ) (partW k b) q v
      ⊢ iprop((owns (c : Thread nD τ) (partW k b) q v -∗ WP c (kt (shapeCast S1x128x256 v shapeCasts_S128x256_S1x128x256)) Q)
        -∗ WP c (.op (.load partM (Rect.unit (s := S3x512x256) off S1x128x256.size inb).toLoadRect hl) kt) Q) := by
  subst hoff
  exact load_win c partM (partRect k b) (fun _ => rfl) squeezes_S1x128x256_S128x256 shapeCasts_S128x256_S1x128x256

theorem store_part (k : Fin 3) (b : Fin 4) {off : Fin 3 → ℕ} {inb : ∀ a, off a + S1x128x256.size a ≤ S3x512x256.size a}
    (hoff : off = ![k.val, 128 * b.val, 0]) (v : FVec F S128x256 .bf16) {pay : FVec F S1x128x256 .bf16}
    (hpay : pay = shapeCast S1x128x256 v shapeCasts_S128x256_S1x128x256)
    {hx : (partM.access (Rect.unit (s := S3x512x256) off S1x128x256.size inb)).Stores Finset.univ}
    {hm : (Finset.univ : Finset (Rect.unit (s := S3x512x256) off S1x128x256.size inb).shape.Idx) = Finset.univ
      ∨ ∀ a, (Rect.unit (s := S3x512x256) off S1x128x256.size inb).stride a = 1}
    {kt : PUnit → Prog (TpuEff nD τ sig (Elt F) Λ₀ .tc) α} {Q : α → sProp 𝕄} :
    iprop(∃ v₀, owns (c : Thread nD τ) (partW k b) fullShare v₀)
      ⊢ iprop((owns (c : Thread nD τ) (partW k b) fullShare v -∗ WP c (kt ⟨⟩) Q)
        -∗ WP c (.op (.store partM (Rect.unit (s := S3x512x256) off S1x128x256.size inb) pay Finset.univ hx hm) kt) Q) := by
  subst hoff
  exact store_win c partM (partRect k b) (fun _ => rfl) squeezes_S1x128x256_S128x256 shapeCasts_S128x256_S1x128x256 v hpay

/-- A window overwritten: its old contents are read first and not used. -/
theorem put_part (k : Fin 3) (b : Fin 4) {off : Fin 3 → ℕ} {inb : ∀ a, off a + S1x128x256.size a ≤ S3x512x256.size a}
    (hoff : off = ![k.val, 128 * b.val, 0]) (v : FVec F S128x256 .bf16) {pay : FVec F S1x128x256 .bf16}
    (hpay : pay = shapeCast S1x128x256 v shapeCasts_S128x256_S1x128x256)
    {hl : partM.view.LoadsAt (Rect.unit (s := S3x512x256) off S1x128x256.size inb).toLoadRect}
    {hx : (partM.access (Rect.unit (s := S3x512x256) off S1x128x256.size inb)).Stores Finset.univ}
    {hm : (Finset.univ : Finset (Rect.unit (s := S3x512x256) off S1x128x256.size inb).shape.Idx) = Finset.univ
      ∨ ∀ a, (Rect.unit (s := S3x512x256) off S1x128x256.size inb).stride a = 1}
    {kt : PUnit → Prog (TpuEff nD τ sig (Elt F) Λ₀ .tc) α} {Q : α → sProp 𝕄} :
    iprop(∃ v₀, owns (c : Thread nD τ) (partW k b) fullShare v₀)
      ⊢ iprop((owns (c : Thread nD τ) (partW k b) fullShare v -∗ WP c (kt ⟨⟩) Q)
        -∗ WP c (.op (.load partM (Rect.unit (s := S3x512x256) off S1x128x256.size inb).toLoadRect hl)
          fun _ => .op (.store partM (Rect.unit (s := S3x512x256) off S1x128x256.size inb) pay Finset.univ hx hm) kt) Q) := by
  iintro ⟨%v₀, H⟩ Hk
  iapply (load_part c k b hoff) $$ H
  iintro H
  iapply (store_part c k b hoff v hpay) $$ [H]
  · iexists v₀; iexact H
  iintro H
  iapply Hk
  iexact H

theorem load_xout (k : Fin 2) {q : PosShare TreeShare} {v : FVec F S128x256 .bf16} {hl : xoutM.view.LoadsAt (xoutRect k).toLoadRect}
    {kt : Vec F S1x128x256 .bf16 → Prog (TpuEff nD τ sig (Elt F) Λ₀ .tc) α} {Q : α → sProp 𝕄} :
    owns (c : Thread nD τ) (xoutW k) q v
      ⊢ iprop((owns (c : Thread nD τ) (xoutW k) q v -∗ WP c (kt (shapeCast S1x128x256 v shapeCasts_S128x256_S1x128x256)) Q)
        -∗ WP c (.op (.load xoutM (xoutRect k).toLoadRect hl) kt) Q) :=
  load_win c xoutM (xoutRect k) (fun _ => rfl) squeezes_S1x128x256_S128x256 shapeCasts_S128x256_S1x128x256

theorem store_xout (k : Fin 2) (v : FVec F S128x256 .bf16) {pay : FVec F S1x128x256 .bf16}
    (hpay : pay = shapeCast S1x128x256 v shapeCasts_S128x256_S1x128x256)
    {hx : (xoutM.access (xoutRect k)).Stores Finset.univ}
    {hm : (Finset.univ : Finset (xoutRect k).shape.Idx) = Finset.univ ∨ ∀ a, (xoutRect k).stride a = 1}
    {kt : PUnit → Prog (TpuEff nD τ sig (Elt F) Λ₀ .tc) α} {Q : α → sProp 𝕄} :
    iprop(∃ v₀, owns (c : Thread nD τ) (xoutW k) fullShare v₀)
      ⊢ iprop((owns (c : Thread nD τ) (xoutW k) fullShare v -∗ WP c (kt ⟨⟩) Q)
        -∗ WP c (.op (.store xoutM (xoutRect k) pay Finset.univ hx hm) kt) Q) :=
  store_win c xoutM (xoutRect k) (fun _ => rfl) squeezes_S1x128x256_S128x256 shapeCasts_S128x256_S1x128x256 v hpay

/-- The same for the outgoing activation. -/
theorem put_xout (k : Fin 2) (v : FVec F S128x256 .bf16) {pay : FVec F S1x128x256 .bf16}
    (hpay : pay = shapeCast S1x128x256 v shapeCasts_S128x256_S1x128x256)
    {hl : xoutM.view.LoadsAt (xoutRect k).toLoadRect}
    {hx : (xoutM.access (xoutRect k)).Stores Finset.univ}
    {hm : (Finset.univ : Finset (xoutRect k).shape.Idx) = Finset.univ ∨ ∀ a, (xoutRect k).stride a = 1}
    {kt : PUnit → Prog (TpuEff nD τ sig (Elt F) Λ₀ .tc) α} {Q : α → sProp 𝕄} :
    iprop(∃ v₀, owns (c : Thread nD τ) (xoutW k) fullShare v₀)
      ⊢ iprop((owns (c : Thread nD τ) (xoutW k) fullShare v -∗ WP c (kt ⟨⟩) Q)
        -∗ WP c (.op (.load xoutM (xoutRect k).toLoadRect hl) fun _ => .op (.store xoutM (xoutRect k) pay Finset.univ hx hm) kt) Q) := by
  iintro ⟨%v₀, H⟩ Hk
  iapply (load_xout c k) $$ H
  iintro H
  iapply (store_xout c k v hpay) $$ [H]
  · iexists v₀; iexact H
  iintro H
  iapply Hk
  iexact H

/-- An arrived window, taken out of the state to be read. -/
theorem core_got (n r w : ℕ) (ch : Ch) (h : ch ∈ rord.take r) :
    core I K c n r w ⊢ iprop(recvPay I c ch ∗ (recvPay I c ch -∗ core I K c n r w)) := by
  unfold core
  iintro ⟨#HR, HO, H1, H2, H3, H4, Hg⟩
  ihave Hg := (listSep_mem (got I c) h) $$ Hg
  icases Hg with ⟨Hw, Hg⟩
  unfold got
  icases Hw with ⟨Hat, Hw⟩
  isplitl [Hw]; · iexact Hw
  iintro Hw
  isplitr; · iexact HR
  isplitl [HO]; · iexact HO
  isplitl [H1]; · iexact H1
  isplitl [H2]; · iexact H2
  isplitl [H3]; · iexact H3
  isplitl [H4]; · iexact H4
  iapply Hg
  isplitl [Hat] <;> iassumption

/-- Whether a copy is one of a list. -/
def among (ch : Ch) (l : List Ch) : Bool := l.any fun x => decide (x = ch)
theorem among_mem {ch : Ch} {l : List Ch} (h : among ch l = true) : ch ∈ l := by
  obtain ⟨x, hx, hd⟩ := List.any_eq_true.mp h
  exact of_decide_eq_true hd ▸ hx

theorem casts4 : S128x256.ShapeCasts S1x1x128x256 := (squeezes_S1x1x128x256_S128x256).numel_eq.symm

/-- Reading a piece that has arrived. -/
theorem load_piece (n r w : ℕ) (k : Fin 3) (s : Fin 6) (m : ℕ) (d j : Fin 4) (h : among (.inl (k, s)) (rord.take r) = true)
    (hm : k.val = m) (hd : hop (.inl (k, s)) = d) (hj : rho s = j) {hl : pieceM.view.LoadsAt (pieceRect (k, s)).toLoadRect}
    {kt : Vec F S1x1x128x256 .bf16 → Prog (TpuEff nD τ sig (Elt F) Λ₀ .tc) α} {Q : α → sProp 𝕄} :
    core I K c n r w
      ⊢ iprop((core I K c n r w -∗ WP c (kt (shapeCast S1x1x128x256 (piece I m (c - d) j) casts4)) Q)
        -∗ WP c (.op (.load pieceM (pieceRect (k, s)).toLoadRect hl) kt) Q) := by
  subst hm hd hj
  have e : recvPay I c (.inl (k, s)) = owns (c : Thread nD τ) (pieceW (k, s)) fullShare (piece I k.val (c - hop (.inl (k, s))) (rho s)) := rfl
  iintro H Hk
  ihave H := (core_got I K c n r w (.inl (k, s)) (among_mem h)) $$ H
  icases H with ⟨Hw, Hb⟩
  ihave Hw := (Entails.of_eq e) $$ Hw
  iapply (load_win c pieceM (pieceRect (k, s)) (fun _ => rfl) squeezes_S1x1x128x256_S128x256 casts4) $$ Hw
  iintro Hw
  iapply Hk
  iapply Hb
  iapply (Entails.of_eq e.symm) $$ Hw

/-- Reading an activation that has arrived. -/
theorem load_xin (n r w : ℕ) (k s : Fin 2) (m : ℕ) (d : Fin 4) (h : among (.inr (k, s)) (rord.take r) = true)
    (hm : k.val + 1 = m) (hd : hop (.inr (k, s)) = d) {hl : xinM.view.LoadsAt (xinRect (k, s)).toLoadRect}
    {kt : Vec F S1x1x128x256 .bf16 → Prog (TpuEff nD τ sig (Elt F) Λ₀ .tc) α} {Q : α → sProp 𝕄} :
    core I K c n r w
      ⊢ iprop((core I K c n r w -∗ WP c (kt (shapeCast S1x1x128x256 (act I m (c - d) 0) casts4)) Q)
        -∗ WP c (.op (.load xinM (xinRect (k, s)).toLoadRect hl) kt) Q) := by
  subst hm hd
  have e : recvPay I c (.inr (k, s)) = owns (c : Thread nD τ) (xinW (k, s)) fullShare (act I (k.val + 1) (c - hop (.inr (k, s))) 0) := rfl
  iintro H Hk
  ihave H := (core_got I K c n r w (.inr (k, s)) (among_mem h)) $$ H
  icases H with ⟨Hw, Hb⟩
  ihave Hw := (Entails.of_eq e) $$ Hw
  iapply (load_win c xinM (xinRect (k, s)) (fun _ => rfl) squeezes_S1x1x128x256_S128x256 casts4) $$ Hw
  iintro Hw
  iapply Hk
  iapply Hb
  iapply (Entails.of_eq e.symm) $$ Hw

/-- Sending a piece out of the window it was stored in. -/
theorem send_piece (n r w : ℕ) (k : Fin 3) (s : Fin 6) (m : ℕ) (d j : Fin 4) (q : PosShare TreeShare)
    (h₁ : ord.drop n = .inl (k, s) :: ord.drop (n + 1)) (h₂ : (ord.take (n + 1)).drop w = (ord.take n).drop w ++ [.inl (k, s)])
    (hl : live (.inl (k, s)) = true) (hm : k.val = m) (hd : hop (.inl (k, s)) = d) (hj : rho s = j) (hq : shr (.inl (k, s)) = q)
    {dev : Dev nD} (hdev : dev = c + d)
    {off : Fin 3 → ℕ} {inb : ∀ a, off a + S1x128x256.size a ≤ S3x512x256.size a} (hoff : off = ![k.val, 128 * (c + j).val, 0])
    {hsc : (pieceW (k, s) : Memref sig (Dev.tc dev : Thread nD τ).2.kind .vmem S128x256 .bf16).view.ref.isScScratch = false}
    {hx : ((partM.slice (Rect.unit (s := S3x512x256) off S1x128x256.size inb) (fun _ => rfl)).squeeze S128x256 squeezes_S1x128x256_S128x256).view.WordExact}
    {hy : (pieceW (k, s)).view.WordExact}
    {hsem : DmaTarget.Typed .vmem (.dma (recvS (.inl (k, s)))) (.remote (Dev.tc dev : Thread nD τ) (pieceW (k, s)) (.dma (sendS (.inl (k, s)))) hsc)}
    {kt : PUnit → Prog (TpuEff nD τ sig (Elt F) Λ₀ .tc) α} {Q : α → sProp 𝕄} :
    iprop(core I K c n r w ∗ owns (c : Thread nD τ) (partW k (c + j)) q (piece I m c j))
      ⊢ iprop((core I K c (n + 1) r w -∗ WP c (kt ⟨⟩) Q)
        -∗ WP c (.op (.enqueueDma ((partM.slice (Rect.unit (s := S3x512x256) off S1x128x256.size inb) (fun _ => rfl)).squeeze S128x256 squeezes_S1x128x256_S128x256)
          (.remote (Dev.tc dev : Thread nD τ) (pieceW (k, s)) (.dma (sendS (.inl (k, s)))) hsc) (.dma (recvS (.inl (k, s)))) hx hy hsem) kt) Q) := by
  subst hm hd hj hq
  exact step_send I K c n r w (.inl (k, s)) h₁ h₂ hl (part_src k _ hoff) rfl hdev rfl rfl

/-- Sending the activation. -/
theorem send_act (n r w : ℕ) (k s : Fin 2) (m : ℕ) (d : Fin 4) (q : PosShare TreeShare)
    (h₁ : ord.drop n = .inr (k, s) :: ord.drop (n + 1)) (h₂ : (ord.take (n + 1)).drop w = (ord.take n).drop w ++ [.inr (k, s)])
    (hm : k.val + 1 = m) (hd : hop (.inr (k, s)) = d) (hq : shr (.inr (k, s)) = q)
    {dev : Dev nD} (hdev : dev = c + d)
    {hsc : (xinW (k, s) : Memref sig (Dev.tc dev : Thread nD τ).2.kind .vmem S128x256 .bf16).view.ref.isScScratch = false}
    {hx : (xoutW k).view.WordExact}
    {hy : (xinW (k, s)).view.WordExact}
    {hsem : DmaTarget.Typed .vmem (.dma (recvS (.inr (k, s)))) (.remote (Dev.tc dev : Thread nD τ) (xinW (k, s)) (.dma (sendS (.inr (k, s)))) hsc)}
    {kt : PUnit → Prog (TpuEff nD τ sig (Elt F) Λ₀ .tc) α} {Q : α → sProp 𝕄} :
    iprop(core I K c n r w ∗ owns (c : Thread nD τ) (xoutW k) q (act I m c 0))
      ⊢ iprop((core I K c (n + 1) r w -∗ WP c (kt ⟨⟩) Q)
        -∗ WP c (.op (.enqueueDma (xoutW k)
          (.remote (Dev.tc dev : Thread nD τ) (xinW (k, s)) (.dma (sendS (.inr (k, s)))) hsc) (.dma (recvS (.inr (k, s)))) hx hy hsem) kt) Q) := by
  subst hm hd hq
  exact step_send I K c n r w (.inr (k, s)) h₁ h₂ rfl rfl rfl hdev rfl rfl

/-- Waiting for a piece. -/
theorem recv_piece (n r w : ℕ) (k : Fin 3) (s : Fin 6) (h₁ : rord.drop r = .inl (k, s) :: rord.drop (r + 1)) (h₂ : rord.take (r + 1) = rord.take r ++ [.inl (k, s)])
    (hl : live (.inl (k, s)) = true) (hlv : ∀ ch' ∈ ord.drop n, chLv (.inl (k, s)) < chLv ch')
    {sp' : Space} {s' : Shape} {e' : EltTy} {a : Memref sig (c : Thread nD τ).2.kind sp' s' e'} {hx : a.view.WordExact} {hy : (pieceW (k, s)).view.WordExact}
    {kt : PUnit → Prog (TpuEff nD τ sig (Elt F) Λ₀ .tc) α} {Q : α → sProp 𝕄} :
    core I K c n r w
      ⊢ iprop((core I K c n (r + 1) w -∗ WP c (kt ⟨⟩) Q) -∗ WP c (.op (.waitDma2 (recvS (.inl (k, s))) a (pieceW (k, s)) hx hy) kt) Q) :=
  step_recv I K c n r w (.inl (k, s)) h₁ h₂ hl hlv rfl rfl

/-- Waiting for an activation. -/
theorem recv_act (n r w : ℕ) (k s : Fin 2) (h₁ : rord.drop r = .inr (k, s) :: rord.drop (r + 1)) (h₂ : rord.take (r + 1) = rord.take r ++ [.inr (k, s)])
    (hlv : ∀ ch' ∈ ord.drop n, chLv (.inr (k, s)) < chLv ch')
    {sp' : Space} {s' : Shape} {e' : EltTy} {a : Memref sig (c : Thread nD τ).2.kind sp' s' e'} {hx : a.view.WordExact} {hy : (xinW (k, s)).view.WordExact}
    {kt : PUnit → Prog (TpuEff nD τ sig (Elt F) Λ₀ .tc) α} {Q : α → sProp 𝕄} :
    core I K c n r w
      ⊢ iprop((core I K c n (r + 1) w -∗ WP c (kt ⟨⟩) Q) -∗ WP c (.op (.waitDma2 (recvS (.inr (k, s))) a (xinW (k, s)) hx hy) kt) Q) :=
  step_recv I K c n r w (.inr (k, s)) h₁ h₂ rfl hlv rfl rfl

/-- A copy credits the same at its source as where it lands. -/
theorem credit_part (p : Fin 3 × Fin 6) {off : Fin 3 → ℕ} {inb : ∀ a, off a + S1x128x256.size a ≤ S3x512x256.size a} :
    ((partM.slice (Rect.unit (s := S3x512x256) off S1x128x256.size inb) (fun _ => rfl)).squeeze S128x256 squeezes_S1x128x256_S128x256).view.dmaCredit
      = N (.inl p) := rfl
theorem credit_xout (k : Fin 2) (p : Fin 2 × Fin 2) : (xoutW k).view.dmaCredit = N (.inr p) := rfl

/-- Waiting until a piece has left. -/
theorem left_piece (r w : ℕ) (k : Fin 3) (s : Fin 6) (h₁ : (ord.take 19).drop w = .inl (k, s) :: (ord.take 19).drop (w + 1))
    (h₂ : ord.take (w + 1) = ord.take w ++ [.inl (k, s)]) (hl : live (.inl (k, s)) = true)
    {off : Fin 3 → ℕ} {inb : ∀ a, off a + S1x128x256.size a ≤ S3x512x256.size a}
    {sp' : Space} {s' : Shape} {e' : EltTy} {a : Memref sig (c : Thread nD τ).2.kind sp' s' e'} {hx : a.view.WordExact}
    {hy : ((partM.slice (Rect.unit (s := S3x512x256) off S1x128x256.size inb) (fun _ => rfl)).squeeze S128x256 squeezes_S1x128x256_S128x256).view.WordExact}
    {kt : PUnit → Prog (TpuEff nD τ sig (Elt F) Λ₀ .tc) α} {Q : α → sProp 𝕄} :
    core I K c 19 r w
      ⊢ iprop((core I K c 19 r (w + 1) -∗ WP c (kt ⟨⟩) Q) -∗ WP c (.op (.waitDma2 (sendS (.inl (k, s))) a
        ((partM.slice (Rect.unit (s := S3x512x256) off S1x128x256.size inb) (fun _ => rfl)).squeeze S128x256 squeezes_S1x128x256_S128x256) hx hy) kt) Q) :=
  step_left I K c r w (.inl (k, s)) h₁ h₂ hl rfl (credit_part (k, s))

/-- Waiting until an activation has left. -/
theorem left_act (r w : ℕ) (k s : Fin 2) (h₁ : (ord.take 19).drop w = .inr (k, s) :: (ord.take 19).drop (w + 1))
    (h₂ : ord.take (w + 1) = ord.take w ++ [.inr (k, s)])
    {sp' : Space} {s' : Shape} {e' : EltTy} {a : Memref sig (c : Thread nD τ).2.kind sp' s' e'} {hx : a.view.WordExact} {hy : (xoutW k).view.WordExact}
    {kt : PUnit → Prog (TpuEff nD τ sig (Elt F) Λ₀ .tc) α} {Q : α → sProp 𝕄} :
    core I K c 19 r w
      ⊢ iprop((core I K c 19 r (w + 1) -∗ WP c (kt ⟨⟩) Q) -∗ WP c (.op (.waitDma2 (sendS (.inr (k, s))) a (xoutW k) hx hy) kt) Q) :=
  step_left I K c r w (.inr (k, s)) h₁ h₂ rfl rfl (credit_xout k (k, s))

/-- What a device holds of the exchange before the barrier wait. -/
def ready : sProp 𝕄 :=
  iprop((bigSepL ord fun ch => iprop(dutyTok ER (sendCell c ch) 0 0 ∗ dutyTok ER (recvCell (c + hop ch) ch) 0 0 ∗ atPos ER (sendCell c ch) 0 ∅ 0))
    ∗ bigSepL rord (toRecv c) ∗ atPos ER (barCell c) 0 ∅ 0 ∗ cred (tallyAt (barCell c) () 3))

/-- The barrier wait puts the device into the exchange. -/
theorem step_enter {amt : ℕ} (hamt : amt = 3) {kt : PUnit → Prog (TpuEff nD τ sig (Elt F) Λ₀ .tc) α} {Q : α → sProp 𝕄} :
    iprop(recs I K ∗ (∃ W, owes (c : Thread nD τ) (Ow c ord) W) ∗ ready c)
      ⊢ iprop((core I K c 0 0 0 ∗ atPos ER (barCell c) 1 ∅ 0 -∗ WP c (kt ⟨⟩) Q)
        -∗ WP c (.op (.semWait barS amt) kt) Q) := by
  unfold ready
  iintro ⟨#HR, HO, Hs, Hr, Hat, Hc⟩ Hk
  iapply (step_wait_bar I K c hamt) $$ [HO Hat Hc]
  · isplitr; · iexact HR
    isplitl [HO]; · iexact HO
    isplitl [Hat] <;> iassumption
  iintro ⟨HO, Hat, Hw⟩
  iapply Hk
  isplitr [Hat]
  · unfold core
    isplitr; · iexact HR
    isplitl [HO]; · iexact HO
    isplitl [Hs Hw]
    · have e : iprop((bigSepL ord fun ch => iprop(dutyTok ER (sendCell c ch) 0 0 ∗ dutyTok ER (recvCell (c + hop ch) ch) 0 0 ∗ atPos ER (sendCell c ch) 0 ∅ 0))
          ∗ bigSepL ord fun ch => held (F := F) (c + hop ch) ch) = bigSepL (ord.drop 0) (toSend c) := by
        rw [← listSep_sep]
        refine congrArg (bigSepL ord) (funext fun ch => ?_)
        unfold toSend
        rw [sepA, sepA]
      iapply (Entails.of_eq e)
      isplitl [Hs] <;> iassumption
    have e₁ : bigSepL ((ord.take 0).drop 0) (pend (F := F) c) = iprop(emp) := bigSepL_nil _
    have e₂ : bigSepL (ord.take 0) (back I c) = iprop(emp) := bigSepL_nil _
    have e₃ : bigSepL (rord.take 0) (got I c) = iprop(emp) := bigSepL_nil _
    isplitr; · (iapply (Entails.of_eq e₁.symm); iempintro)
    isplitr; · (iapply (Entails.of_eq e₂.symm); iempintro)
    isplitl [Hr]; · iexact Hr
    iapply (Entails.of_eq e₃.symm); iempintro
  · iexact Hat

/-! ## The staged arrays -/

/-- A staged array held whole. -/
abbrev stag (b : Ref sig .tc) (X : b.ty.Contents (Elt F)) : sProp 𝕄 := iprop(((c : Thread nD τ).loc b) ↦{fullShare} X)

/-- Reading a row block of the staged batch. -/
theorem load_rows (X : Vec F S512x256 .bf16) (b : Fin 4) {off : Fin 2 → ℕ} {inb : ∀ a, off a + S128x256.size a ≤ S512x256.size a}
    (hoff : off = ![128 * b.val, 0])
    {hl : (Memref.whole cc0_stg0_0 : Memref sig .tc .vmem S512x256 .bf16).view.LoadsAt (Rect.unit (s := S512x256) off S128x256.size inb).toLoadRect}
    {kt : Vec F S128x256 .bf16 → Prog (TpuEff nD τ sig (Elt F) Λ₀ .tc) α} {Q : α → sProp 𝕄} :
    stag c cc0_stg0_0 X
      ⊢ iprop((stag c cc0_stg0_0 X -∗ WP c (kt (rows b X)) Q)
        -∗ WP c (.op (.load (Memref.whole cc0_stg0_0 : Memref sig .tc .vmem S512x256 .bf16) (Rect.unit (s := S512x256) off S128x256.size inb).toLoadRect hl) kt) Q) := by
  subst hoff
  exact wp_load_rect 𝒱₀ (c : Thread nD τ) none Set.univ (m := (Memref.whole cc0_stg0_0 : Memref sig .tc .vmem S512x256 .bf16))
    (r := rowRect b) (Finset.subset_univ _)

/-- Reading a staged array whole. -/
theorem load_whole {i : Fin (sig.nNear Kind.tc .vmem)} {hκ : sig.names Kind.tc .vmem i = true}
    (X : (sig.tyNear Kind.tc .vmem i).Contents (Elt F)) {off : Fin (sig.tyNear Kind.tc .vmem i).shape.rank → ℕ} (h : off = fun _ => 0)
    {inb : ∀ a, off a + (sig.tyNear Kind.tc .vmem i).shape.size a ≤ (sig.tyNear Kind.tc .vmem i).shape.size a}
    {hl : (Memref.whole ⟨.vmem, i, hκ⟩ : Memref sig .tc _ _ _).view.LoadsAt (Rect.unit off (sig.tyNear Kind.tc .vmem i).shape.size inb).toLoadRect}
    {kt : (sig.tyNear Kind.tc .vmem i).Contents (Elt F) → Prog (TpuEff nD τ sig (Elt F) Λ₀ .tc) α} {Q : α → sProp 𝕄} :
    stag c ⟨.vmem, i, hκ⟩ X ⊢ iprop((stag c ⟨.vmem, i, hκ⟩ X -∗ WP c (kt X) Q)
      -∗ WP c (.op (.load (Memref.whole ⟨.vmem, i, hκ⟩) (Rect.unit off (sig.tyNear Kind.tc .vmem i).shape.size inb).toLoadRect hl) kt) Q) := by
  have e := wp_load (defs := defs₀ (F := F)) 𝒱₀ (c : Thread nD τ) none (Γ := .empty) Set.univ (Q := Q) (m := Memref.whole ⟨.vmem, i, hκ⟩)
    (r := (Rect.unit off (sig.tyNear Kind.tc .vmem i).shape.size inb).toLoadRect) (hl := hl) (k := kt) (q := fullShare) (f := X) (S := Finset.univ) (Finset.subset_univ _)
  rwa [Memref.readAt_unit_zero (Elt F) _ h] at e

/-- Storing a staged array whole. -/
theorem store_whole {i : Fin (sig.nNear Kind.tc .vmem)} {hκ : sig.names Kind.tc .vmem i = true}
    (X Y : (sig.tyNear Kind.tc .vmem i).Contents (Elt F)) {off : Fin (sig.tyNear Kind.tc .vmem i).shape.rank → ℕ} (h : off = fun _ => 0)
    {inb : ∀ a, off a + (sig.tyNear Kind.tc .vmem i).shape.size a ≤ (sig.tyNear Kind.tc .vmem i).shape.size a}
    {pay : (sig.tyNear Kind.tc .vmem i).Contents (Elt F)} (hpay : pay = Y)
    {hx : ((Memref.whole ⟨.vmem, i, hκ⟩ : Memref sig .tc _ _ _).access (Rect.unit off (sig.tyNear Kind.tc .vmem i).shape.size inb)).Stores Finset.univ}
    {hm : (Finset.univ : Finset (Rect.unit off (sig.tyNear Kind.tc .vmem i).shape.size inb).shape.Idx) = Finset.univ
      ∨ ∀ a, (Rect.unit off (sig.tyNear Kind.tc .vmem i).shape.size inb).stride a = 1}
    {kt : PUnit → Prog (TpuEff nD τ sig (Elt F) Λ₀ .tc) α} {Q : α → sProp 𝕄} :
    stag c ⟨.vmem, i, hκ⟩ X ⊢ iprop((stag c ⟨.vmem, i, hκ⟩ Y -∗ WP c (kt ⟨⟩) Q)
      -∗ WP c (.op (.store (Memref.whole ⟨.vmem, i, hκ⟩) (Rect.unit off (sig.tyNear Kind.tc .vmem i).shape.size inb) pay Finset.univ hx hm) kt) Q) := by
  have e := wp_store (defs := defs₀ (F := F)) 𝒱₀ (c : Thread nD τ) none (Γ := .empty) Set.univ (Q := Q) (m := Memref.whole ⟨.vmem, i, hκ⟩)
    (r := Rect.unit off (sig.tyNear Kind.tc .vmem i).shape.size inb) (w := pay) (Mk := Finset.univ) (hx := hx) (hm := hm) (k := kt) (f := X) (S := Finset.univ) (Finset.subset_univ _)
  rw [Memref.write_access_unit_zero_univ (Elt F) _ h] at e
  subst hpay
  exact e

end Cert.Mlp
-- ==== Proof.Payload.lean ====
/-
# What the stored values are

Every stored or returned value of the kernel's body, for what the windows it is computed from hold: a device's piece of
a layer (`mlp`), a sum of widened pieces, or the rounding of such a sum. The values read out of a window come in the
shape of the rectangle read (`c3`, `c4`).
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A block in the shape its rectangle of a three-axis buffer has. -/
abbrev c3 (v : FVec F S128x256 .bf16) : FVec F S1x128x256 .bf16 := shapeCast S1x128x256 v shapeCasts_S128x256_S1x128x256
/-- A block in the shape its rectangle of a four-axis buffer has. -/
abbrev c4 (v : FVec F S128x256 .bf16) : FVec F S1x1x128x256 .bf16 := shapeCast S1x1x128x256 v casts4

variable (wi wi' : FVec F S256x512 .bf16) (wo wo' : FVec F S512x256 .bf16) (u v : FVec F S128x256 .bf16) (a : FVec F S128x256 .f32)

theorem cut3 : shapeCast S128x256 (c3 v) shapeCasts_S1x128x256_S128x256 = v := shapeCast_shapeCast v _ _
theorem cut4 : shapeCast S128x256 (c4 v) shapeCasts_S1x1x128x256_S128x256 = v := shapeCast_shapeCast v _ _

theorem pay1_eq : k0_pay1 wi = wi := shapeCast_self wi _
theorem pay14_eq : k0_pay14 wi = wi := shapeCast_self wi _
theorem pay29_eq : k0_pay29 wi = wi := shapeCast_self wi _
theorem pay2_eq : k0_pay2 wo = wo := shapeCast_self wo _
theorem pay15_eq : k0_pay15 wo = wo := shapeCast_self wo _
theorem pay30_eq : k0_pay30 wo = wo := shapeCast_self wo _
theorem pay3_eq : k0_pay3 wi wo v = c3 (mlp wi wo v) := by
  simp only [k0_pay3, shapeCast_self, cut3, cut4] <;> rfl
theorem pay8_eq : k0_pay8 wi wo v = c3 (mlp wi wo v) := by
  simp only [k0_pay8, shapeCast_self, cut3, cut4] <;> rfl
theorem pay19_eq : k0_pay19 wi wo v = c3 (mlp wi wo v) := by
  simp only [k0_pay19, shapeCast_self, cut3, cut4] <;> rfl
theorem pay33_eq : k0_pay33 wi wo v = c3 (mlp wi wo v) := by
  simp only [k0_pay33, shapeCast_self, cut3, cut4] <;> rfl
theorem pay5_eq : k0_pay5 wo (k0_pay4 wi v) = c3 (mlp wi wo v) := by
  simp only [k0_pay4, k0_pay5, shapeCast_self, cut3, cut4] <;> rfl
theorem pay6_eq : k0_pay6 wi wo v = mlp wi wo v := by
  simp only [k0_pay6, shapeCast_self, cut3, cut4] <;> rfl
theorem pay7_eq : k0_pay7 v = c3 v := rfl
theorem pay35_eq : k0_pay35 v = c3 v := rfl
theorem pay9_eq : k0_pay9 (c3 v) = ext v := by
  simp only [k0_pay9, shapeCast_self, cut3, cut4] <;> rfl
theorem pay23_eq : k0_pay23 (c3 v) = ext v := by
  simp only [k0_pay23, shapeCast_self, cut3, cut4] <;> rfl
theorem pay27_eq : k0_pay27 (c3 v) = ext v := by
  simp only [k0_pay27, shapeCast_self, cut3, cut4] <;> rfl
theorem pay37_eq : k0_pay37 (c3 v) = ext v := by
  simp only [k0_pay37, shapeCast_self, cut3, cut4] <;> rfl
theorem pay10_eq : k0_pay10 a (c4 u) (c4 v) = addf (addf a (ext u)) (ext v) := by
  simp only [k0_pay10, shapeCast_self, cut3, cut4] <;> rfl
theorem pay24_eq : k0_pay24 a (c4 u) (c4 v) = addf (addf a (ext u)) (ext v) := by
  simp only [k0_pay24, shapeCast_self, cut3, cut4] <;> rfl
theorem pay28_eq : k0_pay28 a (c4 u) (c4 v) = addf (addf a (ext u)) (ext v) := by
  simp only [k0_pay28, shapeCast_self, cut3, cut4] <;> rfl
theorem pay11_eq : k0_pay11 a (c4 u) = addf a (ext u) := by
  simp only [k0_pay11, shapeCast_self, cut3, cut4] <;> rfl
theorem pay25_eq : k0_pay25 a (c4 u) = addf a (ext u) := by
  simp only [k0_pay25, shapeCast_self, cut3, cut4] <;> rfl
theorem pay38_eq : k0_pay38 a (c4 u) = addf a (ext u) := by
  simp only [k0_pay38, shapeCast_self, cut3, cut4] <;> rfl
theorem pay12_eq : k0_pay12 a (c4 u) = c3 (trunc (addf a (ext u))) := by
  simp only [k0_pay12, k0_pay11, shapeCast_self, cut3, cut4] <;> rfl
theorem pay26_eq : k0_pay26 a (c4 u) = c3 (trunc (addf a (ext u))) := by
  simp only [k0_pay26, k0_pay25, shapeCast_self, cut3, cut4] <;> rfl
theorem pay13_eq : k0_pay13 (c3 u) (c4 v) = addf (ext u) (ext v) := by
  simp only [k0_pay13, shapeCast_self, cut3, cut4] <;> rfl
theorem pay16_eq : k0_pay16 a = trunc a := rfl
theorem pay31_eq : k0_pay31 a = trunc a := rfl
theorem pay18_eq : k0_pay18 (k0_pay17 a (c4 u) (c4 v) wi wo) = c3 (mlp wi wo (trunc (addf (addf a (ext u)) (ext v)))) := by
  simp only [k0_pay17, k0_pay18, k0_pay14, k0_pay15, shapeCast_self, cut3, cut4] <;> rfl
theorem pay21_eq : k0_pay21 wo (k0_pay20 wi (c4 v)) (constant S128x256 .f32 0x00000000#32) = c3 (mlp wi wo v) := by
  simp only [k0_pay20, k0_pay21, shapeCast_self, cut3, cut4] <;> rfl
theorem pay22_eq : k0_pay22 wi wo (c4 v) = c3 (mlp wi wo v) := by
  simp only [k0_pay22, shapeCast_self, cut3, cut4] <;> rfl
theorem pay36_eq : k0_pay36 wi wo (c4 v) = c3 (mlp wi wo v) := by
  simp only [k0_pay36, shapeCast_self, cut3, cut4] <;> rfl
theorem pay32_eq : k0_pay32 a (c4 u) wi wo = c3 (mlp wi wo (trunc (addf a (ext u)))) := by
  simp only [k0_pay32, k0_pay29, k0_pay30, shapeCast_self, cut3, cut4] <;> rfl
theorem pay34_eq : k0_pay34 wi wo (c4 v) = mlp wi wo v := by
  simp only [k0_pay34, shapeCast_self, cut3, cut4] <;> rfl
theorem pay39_eq : k0_pay39 (c4 v) = v := by
  simp only [k0_pay39, shapeCast_self, cut3, cut4] <;> rfl
theorem pay40_eq : k0_pay40 a v (c4 u) = addf (addf a (ext v)) (ext u) := by
  simp only [k0_pay40, shapeCast_self, cut3, cut4] <;> rfl

end Cert.Mlp
-- ==== Proof.Body0.lean ====
/-
# The kernel's body, first layer

One theorem per part the body is printed in: what the part takes of the device's resources, and what it leaves.
-/
module

public import proofs.«01_k».proof.Proof.Payload

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : Dev nD × Cel → ℕ) (c : Dev nD) {α : Type}

theorem dev_zero (c : Dev nD) : c + 0 = c := by revert c; decide

/-- The device's own row block is block 0 of its four. -/
theorem own_row (k : ℕ) : (![k, 128 * c.val, 0] : Fin 3 → ℕ) = ![k, 128 * (c + 0).val, 0] :=
  congrArg (fun e : Dev nD => (![k, 128 * e.val, 0] : Fin 3 → ℕ)) (dev_zero c).symm
theorem own_row₂ : (![128 * c.val, 0] : Fin 2 → ℕ) = ![128 * (c + 0).val, 0] :=
  congrArg (fun e : Dev nD => (![128 * e.val, 0] : Fin 2 → ℕ)) (dev_zero c).symm

theorem dev_four (c : Dev nD) : c + 1 + 3 = c ∧ c + 2 + 2 = c ∧ c + 3 + 1 = c := by revert c; decide

/-- The three barrier signals, each giving the windows its target sends into; the first layer's weights. -/
theorem part1 {kt : (Σ' (d0 : Dev nD) (v2 : BitVec 32) (v4 : BitVec 32) (v6 : BitVec 32) (v8 : BitVec 32) (v9 : Sems sig S_) (v23 : FVec F S256x512 .bf16), FVec F S512x256 .bf16)
      → Prog (TpuEff nD τ sig (Elt F) Λ₀ .tc) α} {Q : α → sProp 𝕄} :
    iprop(recs I K ∗ (∃ W, owes (c : Thread nD τ) (owe0 c) W)
      ∗ (dutyTok ER (barCell (c + 1)) 0 3 ∗ bigSepL (ordTo 3) (held c)) ∗ (dutyTok ER (barCell (c + 2)) 0 2 ∗ bigSepL (ordTo 2) (held c))
      ∗ (dutyTok ER (barCell (c + 3)) 0 1 ∗ bigSepL (ordTo 1) (held c)) ∗ stag c cc0_stg1_0 (I.wi 0 c) ∗ stag c cc0_stg2_0 (I.wo 0 c))
    ⊢ iprop((∀ v2, ∀ v4, ∀ v6, ∀ v8, (∃ W, owes (c : Thread nD τ) (Ow c ord) W) ∗ stag c cc0_stg1_0 (I.wi 0 c) ∗ stag c cc0_stg2_0 (I.wo 0 c)
          -∗ WP c (kt ⟨c, v2, v4, v6, v8, SemArray.scalar (sig.barrier 0 rfl), I.wi 0 c, I.wo 0 c⟩) Q)
        -∗ WP c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 >>= kt) Q) := by
  rw [k0_part1_eq_skeleton]; unfold k0_part1_skel
  simp only [semSignalWord, Prog.lift, Prog.bind_op, Prog.bind_ret, Prog.pure_eq_ret, wp_deviceId]
  iintro ⟨#HR, HO, Ht1, Ht2, Ht3, H1, H2⟩ Hk
  iapply (step_signal I K c 3 (by decide) ⟨k0_dev1 c, k0_dev1_lt c⟩ (c + 1) (Fin.ext (k0_dev1_eq c)) (dev_four c).1 (owe0 c) (owe1 c) rfl rfl) $$ [HO Ht1]
  · isplitr; · iexact HR
    isplitl [HO] <;> iassumption
  iintro HO
  iapply (step_signal I K c 2 (by decide) ⟨k0_dev2 c, k0_dev2_lt c⟩ (c + 2) (Fin.ext (k0_dev2_eq c)) (dev_four c).2.1 (owe1 c) (owe2 c) rfl rfl) $$ [HO Ht2]
  · isplitr; · iexact HR
    isplitl [HO] <;> iassumption
  iintro HO
  iapply (step_signal I K c 1 (by decide) ⟨k0_dev3 c, k0_dev3_lt c⟩ (c + 3) (Fin.ext (k0_dev3_eq c)) (dev_four c).2.2 (owe2 c) (Ow c ord) rfl rfl) $$ [HO Ht3]
  · isplitr; · iexact HR
    isplitl [HO] <;> iassumption
  iintro HO
  iapply (load_whole c (I.wi 0 c) (by decide)) $$ H1
  iintro H1
  iapply (load_whole c (I.wo 0 c) (by decide)) $$ H2
  iintro H2
  rw [pay1_eq, pay2_eq]
  iapply Hk $$ %_ %_ %_ %_
  isplitl [HO]; · iexact HO
  isplitl [H1] <;> iassumption

/-- The piece across is stored; past the barrier its copy starts. -/
theorem part2 {v6 : BitVec 32} {kt : FVec F S128x512 .f32 → Prog (TpuEff nD τ sig (Elt F) Λ₀ .tc) α} {Q : α → sProp 𝕄} :
    iprop(recs I K ∗ (∃ W, owes (c : Thread nD τ) (Ow c ord) W) ∗ ready c ∗ stag c cc0_stg0_0 (I.x c)
      ∗ (∃ v, owns (c : Thread nD τ) (partW 0 (c + 2)) fullShare v))
    ⊢ iprop((core I K c 1 0 0 ∗ atPos ER (barCell c) 1 ∅ 0 ∗ stag c cc0_stg0_0 (I.x c)
          ∗ owns (c : Thread nD τ) (partW 0 (c + 2)) fullShare.right (piece I 0 c 2)
          -∗ WP c (kt (k0_pay4 (I.wi 0 c) (act I 0 c 0))) Q)
        -∗ WP c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v6 (SemArray.scalar (sig.barrier 0 rfl)) (I.wi 0 c) (I.wo 0 c) >>= kt) Q) := by
  rw [k0_part2_eq_skeleton]; unfold k0_part2_skel
  simp only [semWaitWord, Prog.lift, Prog.bind_op, Prog.bind_ret, Prog.pure_eq_ret]
  iintro ⟨#HR, HO, Hr, Hx, Hw⟩ Hk
  iapply (load_rows c (I.x c) (c + 0) ((k0_off1_eq c).trans (own_row₂ c))) $$ Hx
  iintro Hx
  iapply (load_rows c (I.x c) (c + 2) (k0_off2_eq c 1)) $$ Hx
  iintro Hx
  iapply (put_part c 0 (c + 2) (k0_off3_eq c 1) (piece I 0 c 2) (pay3_eq _ _ _)) $$ Hw
  iintro Hw
  iapply (step_enter I K c rfl) $$ [HO Hr]
  · isplitr; · iexact HR
    isplitl [HO] <;> iassumption
  iintro ⟨HC, Hb⟩
  ihave Hw := (owns_halves c (partW 0 (c + 2)) (piece I 0 c 2)) $$ Hw
  icases Hw with ⟨Hw, Hw'⟩
  iapply (send_piece I K c 0 0 0 0 0 0 2 2 fullShare.left rfl rfl rfl rfl rfl rfl rfl (dev := ⟨k0_dev4 c, k0_dev4_lt c⟩) (Fin.ext (k0_dev4_eq c)) (k0_off5_eq c 1)) $$ [HC Hw]
  · isplitl [HC] <;> iassumption
  iintro HC
  iapply Hk
  isplitl [HC]; · iexact HC
  isplitl [Hb]; · iexact Hb
  isplitl [Hx] <;> iassumption

/-- The device's own piece is stored and its copy starts; the piece of the next block is computed. -/
theorem part3 {kt : (Σ' (v89 : FVec F S128x256 .bf16), BitVec 32) → Prog (TpuEff nD τ sig (Elt F) Λ₀ .tc) α} {Q : α → sProp 𝕄} {v2 : BitVec 32} {v4 : BitVec 32} {v6 : BitVec 32} :
    iprop(core I K c 1 0 0
      ∗ stag c cc0_stg0_0 (I.x c)
      ∗ (∃ v, owns (c : Thread nD τ) (partW 0 (c + 0)) fullShare v))
    ⊢ iprop((core I K c 2 0 0
          ∗ stag c cc0_stg0_0 (I.x c)
          ∗ owns (c : Thread nD τ) (partW 0 (c + 0)) fullShare.right (piece I 0 c 0)
          -∗ WP c (kt ⟨piece I 0 c 1, 128#32⟩) Q)
        -∗ WP c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v4 v6 (I.wi 0 c) (I.wo 0 c) (k0_pay4 (I.wi 0 c) (act I 0 c 0)) >>= kt) Q) := by
  rw [k0_part3_eq_skeleton]; unfold k0_part3_skel
  simp only [semWaitWord, Prog.lift, Prog.bind_op, Prog.bind_ret, Prog.pure_eq_ret]
  iintro ⟨HC, HX, W0⟩ Hk
  iapply (put_part c 0 (c + 0) ((k0_off6_eq c).trans (own_row c 0)) (piece I 0 c 0) (pay5_eq _ _ _)) $$ W0
  iintro W0
  ihave W0 := (owns_halves c (partW 0 (c + 0)) (piece I 0 c 0)) $$ W0
  icases W0 with ⟨L0, R0⟩
  iapply (send_piece I K c 1 0 0 0 1 0 2 0 fullShare.left rfl rfl rfl rfl rfl rfl rfl (dev := ⟨k0_dev5 c, k0_dev5_lt c⟩) (Fin.ext (k0_dev5_eq c)) ((k0_off8_eq c).trans (own_row c 0))) $$ [HC L0]
  · isplitl [HC] <;> iassumption
  iintro HC
  iapply (load_rows c (I.x c) (c + 1) (k0_off2_eq c 0)) $$ HX
  iintro HX
  rw [pay6_eq]
  iapply Hk
  isplitl [HC]; · iexact HC
  isplitl [HX]; · iexact HX
  iexact R0

/-- The piece of the next block is stored and its first copy starts. -/
theorem part4 {kt : PUnit → Prog (TpuEff nD τ sig (Elt F) Λ₀ .tc) α} {Q : α → sProp 𝕄} {v4 : BitVec 32} {v8 : BitVec 32} {cc : BitVec 32} :
    iprop(core I K c 2 0 0
      ∗ (∃ v, owns (c : Thread nD τ) (partW 0 (c + 1)) fullShare v))
    ⊢ iprop((core I K c 3 0 0
          ∗ owns (c : Thread nD τ) (partW 0 (c + 1)) fullShare.right (piece I 0 c 1)
          -∗ WP c (kt ⟨⟩) Q)
        -∗ WP c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 v8 (piece I 0 c 1) cc >>= kt) Q) := by
  rw [k0_part4_eq_skeleton]; unfold k0_part4_skel
  simp only [semWaitWord, Prog.lift, Prog.bind_op, Prog.bind_ret, Prog.pure_eq_ret]
  iintro ⟨HC, W1⟩ Hk
  iapply (put_part c 0 (c + 1) (k0_off3_eq c 0) (piece I 0 c 1) (pay7_eq _)) $$ W1
  iintro W1
  ihave W1 := (owns_halves c (partW 0 (c + 1)) (piece I 0 c 1)) $$ W1
  icases W1 with ⟨L1, R1⟩
  iapply (send_piece I K c 2 0 0 0 4 0 1 1 fullShare.left rfl rfl rfl rfl rfl rfl rfl (dev := ⟨k0_dev6 c, k0_dev6_lt c⟩) (Fin.ext (k0_dev6_eq c)) (k0_off5_eq c 0)) $$ [HC L1]
  · isplitl [HC] <;> iassumption
  iintro HC
  iapply Hk
  isplitl [HC]; · iexact HC
  iexact R1

/-- The second copy of that piece starts; the piece of the last block is stored and its first copy starts. -/
theorem part5 {kt : PUnit → Prog (TpuEff nD τ sig (Elt F) Λ₀ .tc) α} {Q : α → sProp 𝕄} {v8 : BitVec 32} :
    iprop(core I K c 3 0 0
      ∗ stag c cc0_stg0_0 (I.x c)
      ∗ owns (c : Thread nD τ) (partW 0 (c + 1)) fullShare.right (piece I 0 c 1)
      ∗ (∃ v, owns (c : Thread nD τ) (partW 0 (c + 3)) fullShare v))
    ⊢ iprop((core I K c 5 0 0
          ∗ stag c cc0_stg0_0 (I.x c)
          ∗ owns (c : Thread nD τ) (partW 0 (c + 3)) fullShare.right (piece I 0 c 3)
          -∗ WP c (kt ⟨⟩) Q)
        -∗ WP c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v8 (I.wi 0 c) (I.wo 0 c) >>= kt) Q) := by
  rw [k0_part5_eq_skeleton]; unfold k0_part5_skel
  simp only [semWaitWord, Prog.lift, Prog.bind_op, Prog.bind_ret, Prog.pure_eq_ret]
  iintro ⟨HC, HX, R1, W3⟩ Hk
  iapply (send_piece I K c 3 0 0 0 3 0 3 1 fullShare.right rfl rfl rfl rfl rfl rfl rfl (dev := ⟨k0_dev7 c, k0_dev7_lt c⟩) (Fin.ext (k0_dev7_eq c)) (k0_off5_eq c 0)) $$ [HC R1]
  · isplitl [HC] <;> iassumption
  iintro HC
  iapply (load_rows c (I.x c) (c + 3) (k0_off2_eq c 2)) $$ HX
  iintro HX
  iapply (put_part c 0 (c + 3) (k0_off3_eq c 2) (piece I 0 c 3) (pay8_eq _ _ _)) $$ W3
  iintro W3
  ihave W3 := (owns_halves c (partW 0 (c + 3)) (piece I 0 c 3)) $$ W3
  icases W3 with ⟨L3, R3⟩
  iapply (send_piece I K c 4 0 0 0 2 0 3 3 fullShare.left rfl rfl rfl rfl rfl rfl rfl (dev := ⟨k0_dev8 c, k0_dev8_lt c⟩) (Fin.ext (k0_dev8_eq c)) (k0_off5_eq c 2)) $$ [HC L3]
  · isplitl [HC] <;> iassumption
  iintro HC
  iapply Hk
  isplitl [HC]; · iexact HC
  isplitl [HX]; · iexact HX
  iexact R3

/-- The second copy of that piece starts; the own piece and the first arrived one are read. -/
theorem part6 {kt : (Σ' (v162 : FVec F S128x256 .f32), Vec F S1x1x128x256 .bf16) → Prog (TpuEff nD τ sig (Elt F) Λ₀ .tc) α} {Q : α → sProp 𝕄} {v2 : BitVec 32} {v4 : BitVec 32} :
    iprop(core I K c 5 0 0
      ∗ owns (c : Thread nD τ) (partW 0 (c + 3)) fullShare.right (piece I 0 c 3)
      ∗ owns (c : Thread nD τ) (partW 0 (c + 0)) fullShare.right (piece I 0 c 0))
    ⊢ iprop((core I K c 6 1 0
          ∗ owns (c : Thread nD τ) (partW 0 (c + 0)) fullShare.right (piece I 0 c 0)
          -∗ WP c (kt ⟨ext (piece I 0 c 0), c4 (piece I 0 (c - 2) 2)⟩) Q)
        -∗ WP c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v4 >>= kt) Q) := by
  rw [k0_part6_eq_skeleton]; unfold k0_part6_skel
  simp only [semWaitWord, Prog.lift, Prog.bind_op, Prog.bind_ret, Prog.pure_eq_ret]
  iintro ⟨HC, R3, R0⟩ Hk
  iapply (send_piece I K c 5 0 0 0 5 0 1 3 fullShare.right rfl rfl rfl rfl rfl rfl rfl (dev := ⟨k0_dev9 c, k0_dev9_lt c⟩) (Fin.ext (k0_dev9_eq c)) (k0_off5_eq c 2)) $$ [HC R3]
  · isplitl [HC] <;> iassumption
  iintro HC
  iapply (load_part c 0 (c + 0) ((k0_off6_eq c).trans (own_row c 0))) $$ R0
  iintro R0
  iapply (recv_piece I K c 6 0 0 0 0 rfl rfl rfl (by decide)) $$ HC
  iintro HC
  iapply (load_piece I K c 6 1 0 0 0 0 2 2 rfl rfl rfl rfl) $$ HC
  iintro HC
  rw [pay9_eq]
  iapply Hk
  isplitl [HC]; · iexact HC
  iexact R0

/-- Two more arrived pieces are added. -/
theorem part7 {kt : FVec F S128x256 .f32 → Prog (TpuEff nD τ sig (Elt F) Λ₀ .tc) α} {Q : α → sProp 𝕄} {v2 : BitVec 32} :
    iprop(core I K c 6 1 0)
    ⊢ iprop((core I K c 6 3 0
          -∗ WP c (kt (addf (addf (ext (piece I 0 c 0)) (ext (piece I 0 (c - 2) 2))) (ext (piece I 0 (c - 3) 3)))) Q)
        -∗ WP c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (ext (piece I 0 c 0)) (c4 (piece I 0 (c - 2) 2)) >>= kt) Q) := by
  rw [k0_part7_eq_skeleton]; unfold k0_part7_skel
  simp only [semWaitWord, Prog.lift, Prog.bind_op, Prog.bind_ret, Prog.pure_eq_ret]
  iintro HC Hk
  iapply (recv_piece I K c 6 1 0 0 2 rfl rfl rfl (by decide)) $$ HC
  iintro HC
  iapply (load_piece I K c 6 2 0 0 2 0 3 3 rfl rfl rfl rfl) $$ HC
  iintro HC
  iapply (recv_piece I K c 6 2 0 0 4 rfl rfl rfl (by decide)) $$ HC
  iintro HC
  rw [pay10_eq]
  iapply Hk $$ HC

/-- The sum of the device's own rows is complete; its rounding is stored and its first copy starts. -/
theorem part8 {kt : FVec F S128x256 .f32 → Prog (TpuEff nD τ sig (Elt F) Λ₀ .tc) α} {Q : α → sProp 𝕄} {v4 : BitVec 32} {v8 : BitVec 32} :
    iprop(core I K c 6 3 0
      ∗ (∃ v, owns (c : Thread nD τ) (xoutW 0) fullShare v))
    ⊢ iprop((core I K c 7 3 0
          ∗ owns (c : Thread nD τ) (xoutW 0) fullShare.right (act I 1 c 0)
          -∗ WP c (kt (redA (piece I 0) c)) Q)
        -∗ WP c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 v8 (addf (addf (ext (piece I 0 c 0)) (ext (piece I 0 (c - 2) 2))) (ext (piece I 0 (c - 3) 3))) >>= kt) Q) := by
  rw [k0_part8_eq_skeleton]; unfold k0_part8_skel
  simp only [semWaitWord, Prog.lift, Prog.bind_op, Prog.bind_ret, Prog.pure_eq_ret]
  iintro ⟨HC, WX⟩ Hk
  iapply (load_piece I K c 6 3 0 0 4 0 1 1 rfl rfl rfl rfl) $$ HC
  iintro HC
  iapply (put_xout c 0 (act I 1 c 0) (pay12_eq _ _)) $$ WX
  iintro WX
  ihave WX := (owns_halves c (xoutW 0) (act I 1 c 0)) $$ WX
  icases WX with ⟨L, R⟩
  iapply (send_act I K c 6 3 0 0 1 1 1 fullShare.left rfl rfl rfl rfl rfl (dev := ⟨k0_dev10 c, k0_dev10_lt c⟩) (Fin.ext (k0_dev10_eq c))) $$ [HC L]
  · isplitl [HC] <;> iassumption
  iintro HC
  rw [pay11_eq]
  iapply Hk
  isplitl [HC]; · iexact HC
  iexact R

/-- The second copy of the activation starts; the sum of the rows across begins. -/
theorem part9 {kt : FVec F S128x256 .f32 → Prog (TpuEff nD τ sig (Elt F) Λ₀ .tc) α} {Q : α → sProp 𝕄} {v2 : BitVec 32} {v6 : BitVec 32} :
    iprop(core I K c 7 3 0
      ∗ owns (c : Thread nD τ) (xoutW 0) fullShare.right (act I 1 c 0)
      ∗ owns (c : Thread nD τ) (partW 0 (c + 2)) fullShare.right (piece I 0 c 2))
    ⊢ iprop((core I K c 8 4 0
          ∗ owns (c : Thread nD τ) (partW 0 (c + 2)) fullShare.right (piece I 0 c 2)
          -∗ WP c (kt (addf (ext (piece I 0 c 2)) (ext (piece I 0 (c - 2) 0)))) Q)
        -∗ WP c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 >>= kt) Q) := by
  rw [k0_part9_eq_skeleton]; unfold k0_part9_skel
  simp only [semWaitWord, Prog.lift, Prog.bind_op, Prog.bind_ret, Prog.pure_eq_ret]
  iintro ⟨HC, R, R2⟩ Hk
  iapply (send_act I K c 7 3 0 0 0 1 3 fullShare.right rfl rfl rfl rfl rfl (dev := ⟨k0_dev11 c, k0_dev11_lt c⟩) (Fin.ext (k0_dev11_eq c))) $$ [HC R]
  · isplitl [HC] <;> iassumption
  iintro HC
  iapply (load_part c 0 (c + 2) (k0_off3_eq c 1)) $$ R2
  iintro R2
  iapply (recv_piece I K c 8 3 0 0 1 rfl rfl rfl (by decide)) $$ HC
  iintro HC
  iapply (load_piece I K c 8 4 0 0 1 0 2 0 rfl rfl rfl rfl) $$ HC
  iintro HC
  rw [pay13_eq]
  iapply Hk
  isplitl [HC]; · iexact HC
  iexact R2

/-- The other two pieces for that sum are read, and the second layer's weights. -/
theorem part10 {kt : (Σ' (v265 : FVec F S256x512 .bf16) (v267 : FVec F S512x256 .bf16) (v268 : FVec F S128x256 .bf16), FVec F S128x256 .f32) → Prog (TpuEff nD τ sig (Elt F) Λ₀ .tc) α} {Q : α → sProp 𝕄} {v2 : BitVec 32} :
    iprop(core I K c 8 4 0
      ∗ stag c cc0_stg3_0 (I.wi 1 c)
      ∗ stag c cc0_stg4_0 (I.wo 1 c))
    ⊢ iprop((core I K c 8 6 0
          ∗ stag c cc0_stg3_0 (I.wi 1 c)
          ∗ stag c cc0_stg4_0 (I.wo 1 c)
          -∗ WP c (kt ⟨I.wi 1 c, I.wo 1 c, act I 1 c 0, (k0_pay17 (addf (ext (piece I 0 c 2)) (ext (piece I 0 (c - 2) 0))) (c4 (piece I 0 (c - 3) 1)) (c4 (piece I 0 (c - 1) 3)) (I.wi 1 c) (I.wo 1 c))⟩) Q)
        -∗ WP c (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (redA (piece I 0) c) (addf (ext (piece I 0 c 2)) (ext (piece I 0 (c - 2) 0))) >>= kt) Q) := by
  rw [k0_part10_eq_skeleton]; unfold k0_part10_skel
  simp only [semWaitWord, Prog.lift, Prog.bind_op, Prog.bind_ret, Prog.pure_eq_ret]
  iintro ⟨HC, H3, H4⟩ Hk
  iapply (recv_piece I K c 8 4 0 0 3 rfl rfl rfl (by decide)) $$ HC
  iintro HC
  iapply (load_piece I K c 8 5 0 0 3 0 3 1 rfl rfl rfl rfl) $$ HC
  iintro HC
  iapply (recv_piece I K c 8 5 0 0 5 rfl rfl rfl (by decide)) $$ HC
  iintro HC
  iapply (load_piece I K c 8 6 0 0 5 0 1 3 rfl rfl rfl rfl) $$ HC
  iintro HC
  iapply (load_whole c (I.wi 1 c) (by decide)) $$ H3
  iintro H3
  iapply (load_whole c (I.wo 1 c) (by decide)) $$ H4
  iintro H4
  rw [pay14_eq, pay15_eq]
  iapply Hk
  isplitl [HC]; · iexact HC
  isplitl [H3]; · iexact H3
  iexact H4

end Cert.Mlp
-- ==== Proof.Body1.lean ====
/-
# The kernel's body, second layer

One theorem per part the body is printed in: what the part takes of the device's resources, and what it leaves.
-/
module

public import proofs.«01_k».proof.Proof.Body0

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : Dev nD × Cel → ℕ) (c : Dev nD) {α : Type}

/-- The piece across is stored and its copy starts; the device's own piece is stored. -/
theorem part11 {kt : PUnit → Prog (TpuEff nD τ sig (Elt F) Λ₀ .tc) α} {Q : α → sProp 𝕄} {v2 : BitVec 32} {v6 : BitVec 32} :
    iprop(core I K c 8 6 0
      ∗ (∃ v, owns (c : Thread nD τ) (partW 1 (c + 2)) fullShare v)
      ∗ (∃ v, owns (c : Thread nD τ) (partW 1 (c + 0)) fullShare v))
    ⊢ iprop((core I K c 9 6 0
          ∗ owns (c : Thread nD τ) (partW 1 (c + 0)) fullShare (piece I 1 c 0)
          ∗ owns (c : Thread nD τ) (partW 1 (c + 2)) fullShare.right (piece I 1 c 2)
          -∗ WP c (kt ⟨⟩) Q)
        -∗ WP c (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 (I.wi 1 c) (I.wo 1 c) (act I 1 c 0) (k0_pay17 (addf (ext (piece I 0 c 2)) (ext (piece I 0 (c - 2) 0))) (c4 (piece I 0 (c - 3) 1)) (c4 (piece I 0 (c - 1) 3)) (I.wi 1 c) (I.wo 1 c)) >>= kt) Q) := by
  rw [k0_part11_eq_skeleton]; unfold k0_part11_skel
  simp only [semWaitWord, Prog.lift, Prog.bind_op, Prog.bind_ret, Prog.pure_eq_ret]
  iintro ⟨HC, W2, W0⟩ Hk
  iapply (put_part c 1 (c + 2) (k0_off9_eq c 1) (piece I 1 c 2) (pay18_eq _ _ _ _ _)) $$ W2
  iintro W2
  ihave W2 := (owns_halves c (partW 1 (c + 2)) (piece I 1 c 2)) $$ W2
  icases W2 with ⟨L2, R2⟩
  iapply (send_piece I K c 8 6 0 1 0 1 2 2 fullShare.left rfl rfl rfl rfl rfl rfl rfl (dev := ⟨k0_dev12 c, k0_dev12_lt c⟩) (Fin.ext (k0_dev12_eq c)) (k0_off10_eq c 1)) $$ [HC L2]
  · isplitl [HC] <;> iassumption
  iintro HC
  iapply (put_part c 1 (c + 0) ((k0_off11_eq c).trans (own_row c 1)) (piece I 1 c 0) (pay19_eq _ _ _)) $$ W0
  iintro W0
  iapply Hk
  isplitl [HC]; · iexact HC
  isplitl [W0]; · iexact W0
  iexact R2

/-- The copy of the own piece starts; the activation of the device three before arrives. -/
theorem part12 {kt : (Σ' (v329 : FVec F S128x512 .bf16), FVec F S128x256 .f32) → Prog (TpuEff nD τ sig (Elt F) Λ₀ .tc) α} {Q : α → sProp 𝕄} {v2 : BitVec 32} {v6 : BitVec 32} :
    iprop(core I K c 9 6 0
      ∗ owns (c : Thread nD τ) (partW 1 (c + 0)) fullShare (piece I 1 c 0))
    ⊢ iprop((core I K c 10 7 0
          ∗ owns (c : Thread nD τ) (partW 1 (c + 0)) fullShare.right (piece I 1 c 0)
          -∗ WP c (kt ⟨(k0_pay20 (I.wi 1 c) (c4 (act I 1 (c - 3) 0))), constant S128x256 .f32 0x00000000#32⟩) Q)
        -∗ WP c (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 (I.wi 1 c) >>= kt) Q) := by
  rw [k0_part12_eq_skeleton]; unfold k0_part12_skel
  simp only [semWaitWord, Prog.lift, Prog.bind_op, Prog.bind_ret, Prog.pure_eq_ret]
  iintro ⟨HC, W0⟩ Hk
  ihave W0 := (owns_halves c (partW 1 (c + 0)) (piece I 1 c 0)) $$ W0
  icases W0 with ⟨L0, R0⟩
  iapply (send_piece I K c 9 6 0 1 1 1 2 0 fullShare.left rfl rfl rfl rfl rfl rfl rfl (dev := ⟨k0_dev13 c, k0_dev13_lt c⟩) (Fin.ext (k0_dev13_eq c)) ((k0_off12_eq c).trans (own_row c 1))) $$ [HC L0]
  · isplitl [HC] <;> iassumption
  iintro HC
  iapply (recv_act I K c 10 6 0 0 0 rfl rfl (by decide)) $$ HC
  iintro HC
  iapply (load_xin I K c 10 7 0 0 0 1 3 rfl rfl rfl) $$ HC
  iintro HC
  iapply Hk
  isplitl [HC]; · iexact HC
  iexact R0

/-- The piece of the next block is stored and its first copy starts. -/
theorem part13 {kt : PUnit → Prog (TpuEff nD τ sig (Elt F) Λ₀ .tc) α} {Q : α → sProp 𝕄} {v4 : BitVec 32} {v8 : BitVec 32} :
    iprop(core I K c 10 7 0
      ∗ (∃ v, owns (c : Thread nD τ) (partW 1 (c + 1)) fullShare v))
    ⊢ iprop((core I K c 11 7 0
          ∗ owns (c : Thread nD τ) (partW 1 (c + 1)) fullShare.right (piece I 1 c 1)
          -∗ WP c (kt ⟨⟩) Q)
        -∗ WP c (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v4 v8 (I.wo 1 c) (k0_pay20 (I.wi 1 c) (c4 (act I 1 (c - 3) 0))) (constant S128x256 .f32 0x00000000#32) >>= kt) Q) := by
  rw [k0_part13_eq_skeleton]; unfold k0_part13_skel
  simp only [semWaitWord, Prog.lift, Prog.bind_op, Prog.bind_ret, Prog.pure_eq_ret]
  iintro ⟨HC, W1⟩ Hk
  iapply (put_part c 1 (c + 1) (k0_off9_eq c 0) (piece I 1 c 1) (pay21_eq _ _ _)) $$ W1
  iintro W1
  ihave W1 := (owns_halves c (partW 1 (c + 1)) (piece I 1 c 1)) $$ W1
  icases W1 with ⟨L1, R1⟩
  iapply (send_piece I K c 10 7 0 1 4 1 1 1 fullShare.left rfl rfl rfl rfl rfl rfl rfl (dev := ⟨k0_dev14 c, k0_dev14_lt c⟩) (Fin.ext (k0_dev14_eq c)) (k0_off10_eq c 0)) $$ [HC L1]
  · isplitl [HC] <;> iassumption
  iintro HC
  iapply Hk
  isplitl [HC]; · iexact HC
  iexact R1

/-- Its second copy starts; the activation of the device before arrives and the piece of the last block is stored. -/
theorem part14 {kt : PUnit → Prog (TpuEff nD τ sig (Elt F) Λ₀ .tc) α} {Q : α → sProp 𝕄} {v2 : BitVec 32} {v8 : BitVec 32} :
    iprop(core I K c 11 7 0
      ∗ owns (c : Thread nD τ) (partW 1 (c + 1)) fullShare.right (piece I 1 c 1)
      ∗ (∃ v, owns (c : Thread nD τ) (partW 1 (c + 3)) fullShare v))
    ⊢ iprop((core I K c 12 8 0
          ∗ owns (c : Thread nD τ) (partW 1 (c + 3)) fullShare (piece I 1 c 3)
          -∗ WP c (kt ⟨⟩) Q)
        -∗ WP c (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v8 (I.wi 1 c) (I.wo 1 c) >>= kt) Q) := by
  rw [k0_part14_eq_skeleton]; unfold k0_part14_skel
  simp only [semWaitWord, Prog.lift, Prog.bind_op, Prog.bind_ret, Prog.pure_eq_ret]
  iintro ⟨HC, R1, W3⟩ Hk
  iapply (send_piece I K c 11 7 0 1 3 1 3 1 fullShare.right rfl rfl rfl rfl rfl rfl rfl (dev := ⟨k0_dev15 c, k0_dev15_lt c⟩) (Fin.ext (k0_dev15_eq c)) (k0_off10_eq c 0)) $$ [HC R1]
  · isplitl [HC] <;> iassumption
  iintro HC
  iapply (recv_act I K c 12 7 0 0 1 rfl rfl (by decide)) $$ HC
  iintro HC
  iapply (load_xin I K c 12 8 0 0 1 1 1 rfl rfl rfl) $$ HC
  iintro HC
  iapply (put_part c 1 (c + 3) (k0_off9_eq c 2) (piece I 1 c 3) (pay22_eq _ _ _)) $$ W3
  iintro W3
  iapply Hk
  isplitl [HC]; · iexact HC
  iexact W3

/-- Both copies of that piece start; the own piece is read. -/
theorem part15 {kt : FVec F S128x256 .f32 → Prog (TpuEff nD τ sig (Elt F) Λ₀ .tc) α} {Q : α → sProp 𝕄} {v2 : BitVec 32} {v4 : BitVec 32} {v8 : BitVec 32} :
    iprop(core I K c 12 8 0
      ∗ owns (c : Thread nD τ) (partW 1 (c + 3)) fullShare (piece I 1 c 3)
      ∗ owns (c : Thread nD τ) (partW 1 (c + 0)) fullShare.right (piece I 1 c 0))
    ⊢ iprop((core I K c 14 8 0
          ∗ owns (c : Thread nD τ) (partW 1 (c + 0)) fullShare.right (piece I 1 c 0)
          -∗ WP c (kt (ext (piece I 1 c 0))) Q)
        -∗ WP c (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v4 v8 >>= kt) Q) := by
  rw [k0_part15_eq_skeleton]; unfold k0_part15_skel
  simp only [semWaitWord, Prog.lift, Prog.bind_op, Prog.bind_ret, Prog.pure_eq_ret]
  iintro ⟨HC, W3, R0⟩ Hk
  ihave W3 := (owns_halves c (partW 1 (c + 3)) (piece I 1 c 3)) $$ W3
  icases W3 with ⟨L3, R3⟩
  iapply (send_piece I K c 12 8 0 1 2 1 3 3 fullShare.left rfl rfl rfl rfl rfl rfl rfl (dev := ⟨k0_dev16 c, k0_dev16_lt c⟩) (Fin.ext (k0_dev16_eq c)) (k0_off10_eq c 2)) $$ [HC L3]
  · isplitl [HC] <;> iassumption
  iintro HC
  iapply (send_piece I K c 13 8 0 1 5 1 1 3 fullShare.right rfl rfl rfl rfl rfl rfl rfl (dev := ⟨k0_dev17 c, k0_dev17_lt c⟩) (Fin.ext (k0_dev17_eq c)) (k0_off10_eq c 2)) $$ [HC R3]
  · isplitl [HC] <;> iassumption
  iintro HC
  iapply (load_part c 1 (c + 0) ((k0_off11_eq c).trans (own_row c 1))) $$ R0
  iintro R0
  rw [pay23_eq]
  iapply Hk
  isplitl [HC]; · iexact HC
  iexact R0

/-- Two arrived pieces are added. -/
theorem part16 {kt : FVec F S128x256 .f32 → Prog (TpuEff nD τ sig (Elt F) Λ₀ .tc) α} {Q : α → sProp 𝕄} {v2 : BitVec 32} :
    iprop(core I K c 14 8 0)
    ⊢ iprop((core I K c 14 10 0
          -∗ WP c (kt (addf (addf (ext (piece I 1 c 0)) (ext (piece I 1 (c - 2) 2))) (ext (piece I 1 (c - 3) 3)))) Q)
        -∗ WP c (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (ext (piece I 1 c 0)) >>= kt) Q) := by
  rw [k0_part16_eq_skeleton]; unfold k0_part16_skel
  simp only [semWaitWord, Prog.lift, Prog.bind_op, Prog.bind_ret, Prog.pure_eq_ret]
  iintro HC Hk
  iapply (recv_piece I K c 14 8 0 1 0 rfl rfl rfl (by decide)) $$ HC
  iintro HC
  iapply (load_piece I K c 14 9 0 1 0 1 2 2 rfl rfl rfl rfl) $$ HC
  iintro HC
  iapply (recv_piece I K c 14 9 0 1 2 rfl rfl rfl (by decide)) $$ HC
  iintro HC
  iapply (load_piece I K c 14 10 0 1 2 1 3 3 rfl rfl rfl rfl) $$ HC
  iintro HC
  rw [pay24_eq]
  iapply Hk $$ HC

/-- The sum of the device's own rows is complete and its rounding is stored. -/
theorem part17 {kt : FVec F S128x256 .f32 → Prog (TpuEff nD τ sig (Elt F) Λ₀ .tc) α} {Q : α → sProp 𝕄} {v2 : BitVec 32} {v4 : BitVec 32} :
    iprop(core I K c 14 10 0
      ∗ (∃ v, owns (c : Thread nD τ) (xoutW 1) fullShare v))
    ⊢ iprop((core I K c 14 11 0
          ∗ owns (c : Thread nD τ) (xoutW 1) fullShare (act I 2 c 0)
          -∗ WP c (kt (redA (piece I 1) c)) Q)
        -∗ WP c (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v4 (addf (addf (ext (piece I 1 c 0)) (ext (piece I 1 (c - 2) 2))) (ext (piece I 1 (c - 3) 3))) >>= kt) Q) := by
  rw [k0_part17_eq_skeleton]; unfold k0_part17_skel
  simp only [semWaitWord, Prog.lift, Prog.bind_op, Prog.bind_ret, Prog.pure_eq_ret]
  iintro ⟨HC, WX⟩ Hk
  iapply (recv_piece I K c 14 10 0 1 4 rfl rfl rfl (by decide)) $$ HC
  iintro HC
  iapply (load_piece I K c 14 11 0 1 4 1 1 1 rfl rfl rfl rfl) $$ HC
  iintro HC
  iapply (put_xout c 1 (act I 2 c 0) (pay26_eq _ _)) $$ WX
  iintro WX
  rw [pay25_eq]
  iapply Hk
  isplitl [HC]; · iexact HC
  iexact WX

/-- Both copies of the activation start; the sum of the rows across begins. -/
theorem part18 {kt : FVec F S128x256 .f32 → Prog (TpuEff nD τ sig (Elt F) Λ₀ .tc) α} {Q : α → sProp 𝕄} {v2 : BitVec 32} {v6 : BitVec 32} {v8 : BitVec 32} :
    iprop(core I K c 14 11 0
      ∗ owns (c : Thread nD τ) (xoutW 1) fullShare (act I 2 c 0)
      ∗ owns (c : Thread nD τ) (partW 1 (c + 2)) fullShare.right (piece I 1 c 2))
    ⊢ iprop((core I K c 16 12 0
          ∗ owns (c : Thread nD τ) (partW 1 (c + 2)) fullShare.right (piece I 1 c 2)
          -∗ WP c (kt (ext (piece I 1 c 2))) Q)
        -∗ WP c (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v6 v8 >>= kt) Q) := by
  rw [k0_part18_eq_skeleton]; unfold k0_part18_skel
  simp only [semWaitWord, Prog.lift, Prog.bind_op, Prog.bind_ret, Prog.pure_eq_ret]
  iintro ⟨HC, WX, R2⟩ Hk
  ihave WX := (owns_halves c (xoutW 1) (act I 2 c 0)) $$ WX
  icases WX with ⟨L, R⟩
  iapply (send_act I K c 14 11 0 1 1 2 1 fullShare.left rfl rfl rfl rfl rfl (dev := ⟨k0_dev18 c, k0_dev18_lt c⟩) (Fin.ext (k0_dev18_eq c))) $$ [HC L]
  · isplitl [HC] <;> iassumption
  iintro HC
  iapply (send_act I K c 15 11 0 1 0 2 3 fullShare.right rfl rfl rfl rfl rfl (dev := ⟨k0_dev19 c, k0_dev19_lt c⟩) (Fin.ext (k0_dev19_eq c))) $$ [HC R]
  · isplitl [HC] <;> iassumption
  iintro HC
  iapply (load_part c 1 (c + 2) (k0_off9_eq c 1)) $$ R2
  iintro R2
  iapply (recv_piece I K c 16 11 0 1 1 rfl rfl rfl (by decide)) $$ HC
  iintro HC
  rw [pay27_eq]
  iapply Hk
  isplitl [HC]; · iexact HC
  iexact R2

/-- Two arrived pieces are added to it. -/
theorem part19 {kt : FVec F S128x256 .f32 → Prog (TpuEff nD τ sig (Elt F) Λ₀ .tc) α} {Q : α → sProp 𝕄} {v2 : BitVec 32} :
    iprop(core I K c 16 12 0)
    ⊢ iprop((core I K c 16 14 0
          -∗ WP c (kt (addf (addf (ext (piece I 1 c 2)) (ext (piece I 1 (c - 2) 0))) (ext (piece I 1 (c - 3) 1)))) Q)
        -∗ WP c (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (ext (piece I 1 c 2)) >>= kt) Q) := by
  rw [k0_part19_eq_skeleton]; unfold k0_part19_skel
  simp only [semWaitWord, Prog.lift, Prog.bind_op, Prog.bind_ret, Prog.pure_eq_ret]
  iintro HC Hk
  iapply (load_piece I K c 16 12 0 1 1 1 2 0 rfl rfl rfl rfl) $$ HC
  iintro HC
  iapply (recv_piece I K c 16 12 0 1 3 rfl rfl rfl (by decide)) $$ HC
  iintro HC
  iapply (load_piece I K c 16 13 0 1 3 1 3 1 rfl rfl rfl rfl) $$ HC
  iintro HC
  iapply (recv_piece I K c 16 13 0 1 5 rfl rfl rfl (by decide)) $$ HC
  iintro HC
  rw [pay28_eq]
  iapply Hk $$ HC

/-- The sum is complete; the last layer's weights are read and its piece is stored. -/
theorem part20 {kt : (Σ' (v513 : FVec F S256x512 .bf16) (v515 : FVec F S512x256 .bf16), FVec F S128x256 .bf16) → Prog (TpuEff nD τ sig (Elt F) Λ₀ .tc) α} {Q : α → sProp 𝕄} {v6 : BitVec 32} :
    iprop(core I K c 16 14 0
      ∗ stag c cc0_stg5_0 (I.wi 2 c)
      ∗ stag c cc0_stg6_0 (I.wo 2 c)
      ∗ (∃ v, owns (c : Thread nD τ) (partW 2 (c + 2)) fullShare v))
    ⊢ iprop((core I K c 16 14 0
          ∗ stag c cc0_stg5_0 (I.wi 2 c)
          ∗ stag c cc0_stg6_0 (I.wo 2 c)
          ∗ owns (c : Thread nD τ) (partW 2 (c + 2)) fullShare (piece I 2 c 2)
          -∗ WP c (kt ⟨I.wi 2 c, I.wo 2 c, act I 2 c 0⟩) Q)
        -∗ WP c (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v6 (redA (piece I 1) c) (addf (addf (ext (piece I 1 c 2)) (ext (piece I 1 (c - 2) 0))) (ext (piece I 1 (c - 3) 1))) >>= kt) Q) := by
  rw [k0_part20_eq_skeleton]; unfold k0_part20_skel
  simp only [semWaitWord, Prog.lift, Prog.bind_op, Prog.bind_ret, Prog.pure_eq_ret]
  iintro ⟨HC, H5, H6, W2⟩ Hk
  iapply (load_piece I K c 16 14 0 1 5 1 1 3 rfl rfl rfl rfl) $$ HC
  iintro HC
  iapply (load_whole c (I.wi 2 c) (by decide)) $$ H5
  iintro H5
  iapply (load_whole c (I.wo 2 c) (by decide)) $$ H6
  iintro H6
  iapply (put_part c 2 (c + 2) (k0_off13_eq c 1) (piece I 2 c 2) (pay32_eq _ _ _ _)) $$ W2
  iintro W2
  rw [pay29_eq, pay30_eq]
  iapply Hk
  isplitl [HC]; · iexact HC
  isplitl [H5]; · iexact H5
  isplitl [H6]; · iexact H6
  iexact W2

end Cert.Mlp
-- ==== Proof.Body2.lean ====
/-
# The kernel's body, last layer

One theorem per part the body is printed in: what the part takes of the device's resources, and what it leaves.
-/
module

public import proofs.«01_k».proof.Proof.Body0

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : Dev nD × Cel → ℕ) (c : Dev nD) {α : Type}

/-- The copy of the piece across starts; the own piece is stored; the activation of the device three before arrives. -/
theorem part21 {kt : FVec F S128x256 .bf16 → Prog (TpuEff nD τ sig (Elt F) Λ₀ .tc) α} {Q : α → sProp 𝕄} {v2 : BitVec 32} :
    iprop(core I K c 16 14 0
      ∗ owns (c : Thread nD τ) (partW 2 (c + 2)) fullShare (piece I 2 c 2)
      ∗ (∃ v, owns (c : Thread nD τ) (partW 2 (c + 0)) fullShare v))
    ⊢ iprop((core I K c 17 15 0
          ∗ owns (c : Thread nD τ) (partW 2 (c + 0)) fullShare (piece I 2 c 0)
          ∗ owns (c : Thread nD τ) (partW 2 (c + 2)) fullShare.right (piece I 2 c 2)
          -∗ WP c (kt (piece I 2 c 1)) Q)
        -∗ WP c (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (I.wi 2 c) (I.wo 2 c) (act I 2 c 0) >>= kt) Q) := by
  rw [k0_part21_eq_skeleton]; unfold k0_part21_skel
  simp only [semWaitWord, Prog.lift, Prog.bind_op, Prog.bind_ret, Prog.pure_eq_ret]
  iintro ⟨HC, W2, W0⟩ Hk
  ihave W2 := (owns_halves c (partW 2 (c + 2)) (piece I 2 c 2)) $$ W2
  icases W2 with ⟨L2, R2⟩
  iapply (send_piece I K c 16 14 0 2 0 2 2 2 fullShare.left rfl rfl rfl rfl rfl rfl rfl (dev := ⟨k0_dev20 c, k0_dev20_lt c⟩) (Fin.ext (k0_dev20_eq c)) (k0_off14_eq c 1)) $$ [HC L2]
  · isplitl [HC] <;> iassumption
  iintro HC
  iapply (put_part c 2 (c + 0) ((k0_off15_eq c).trans (own_row c 2)) (piece I 2 c 0) (pay33_eq _ _ _)) $$ W0
  iintro W0
  iapply (recv_act I K c 17 14 0 1 0 rfl rfl (by decide)) $$ HC
  iintro HC
  iapply (load_xin I K c 17 15 0 1 0 2 3 rfl rfl rfl) $$ HC
  iintro HC
  rw [pay34_eq]
  iapply Hk
  isplitl [HC]; · iexact HC
  isplitl [W0]; · iexact W0
  iexact R2

/-- The piece of the next block is stored and its copy starts. -/
theorem part22 {kt : PUnit → Prog (TpuEff nD τ sig (Elt F) Λ₀ .tc) α} {Q : α → sProp 𝕄} {v2 : BitVec 32} {v4 : BitVec 32} :
    iprop(core I K c 17 15 0
      ∗ (∃ v, owns (c : Thread nD τ) (partW 2 (c + 1)) fullShare v))
    ⊢ iprop((core I K c 18 16 0
          ∗ owns (c : Thread nD τ) (partW 2 (c + 1)) fullShare.right (piece I 2 c 1)
          -∗ WP c (kt ⟨⟩) Q)
        -∗ WP c (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v4 (piece I 2 c 1) >>= kt) Q) := by
  rw [k0_part22_eq_skeleton]; unfold k0_part22_skel
  simp only [semWaitWord, Prog.lift, Prog.bind_op, Prog.bind_ret, Prog.pure_eq_ret]
  iintro ⟨HC, W1⟩ Hk
  iapply (put_part c 2 (c + 1) (k0_off13_eq c 0) (piece I 2 c 1) (pay35_eq _)) $$ W1
  iintro W1
  ihave W1 := (owns_halves c (partW 2 (c + 1)) (piece I 2 c 1)) $$ W1
  icases W1 with ⟨L1, R1⟩
  iapply (send_piece I K c 17 15 0 2 4 2 1 1 fullShare.left rfl rfl rfl rfl rfl rfl rfl (dev := ⟨k0_dev21 c, k0_dev21_lt c⟩) (Fin.ext (k0_dev21_eq c)) (k0_off14_eq c 0)) $$ [HC L1]
  · isplitl [HC] <;> iassumption
  iintro HC
  iapply (recv_act I K c 18 15 0 1 1 rfl rfl (by decide)) $$ HC
  iintro HC
  iapply Hk
  isplitl [HC]; · iexact HC
  iexact R1

/-- The piece of the last block is stored and its copy starts; the own piece is read. -/
theorem part23 {kt : FVec F S128x256 .f32 → Prog (TpuEff nD τ sig (Elt F) Λ₀ .tc) α} {Q : α → sProp 𝕄} {v2 : BitVec 32} {v8 : BitVec 32} :
    iprop(core I K c 18 16 0
      ∗ (∃ v, owns (c : Thread nD τ) (partW 2 (c + 3)) fullShare v)
      ∗ owns (c : Thread nD τ) (partW 2 (c + 0)) fullShare (piece I 2 c 0))
    ⊢ iprop((core I K c 19 16 0
          ∗ owns (c : Thread nD τ) (partW 2 (c + 0)) fullShare (piece I 2 c 0)
          ∗ owns (c : Thread nD τ) (partW 2 (c + 3)) fullShare.right (piece I 2 c 3)
          -∗ WP c (kt (ext (piece I 2 c 0))) Q)
        -∗ WP c (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v8 (I.wi 2 c) (I.wo 2 c) >>= kt) Q) := by
  rw [k0_part23_eq_skeleton]; unfold k0_part23_skel
  simp only [semWaitWord, Prog.lift, Prog.bind_op, Prog.bind_ret, Prog.pure_eq_ret]
  iintro ⟨HC, W3, W0⟩ Hk
  iapply (load_xin I K c 18 16 0 1 1 2 1 rfl rfl rfl) $$ HC
  iintro HC
  iapply (put_part c 2 (c + 3) (k0_off13_eq c 2) (piece I 2 c 3) (pay36_eq _ _ _)) $$ W3
  iintro W3
  ihave W3 := (owns_halves c (partW 2 (c + 3)) (piece I 2 c 3)) $$ W3
  icases W3 with ⟨L3, R3⟩
  iapply (send_piece I K c 18 16 0 2 2 2 3 3 fullShare.left rfl rfl rfl rfl rfl rfl rfl (dev := ⟨k0_dev22 c, k0_dev22_lt c⟩) (Fin.ext (k0_dev22_eq c)) (k0_off14_eq c 2)) $$ [HC L3]
  · isplitl [HC] <;> iassumption
  iintro HC
  iapply (load_part c 2 (c + 0) ((k0_off15_eq c).trans (own_row c 2))) $$ W0
  iintro W0
  rw [pay37_eq]
  iapply Hk
  isplitl [HC]; · iexact HC
  isplitl [W0]; · iexact W0
  iexact R3

/-- Two arrived pieces are read. -/
theorem part24 {kt : (Σ' (v634 : FVec F S128x256 .f32), FVec F S128x256 .bf16) → Prog (TpuEff nD τ sig (Elt F) Λ₀ .tc) α} {Q : α → sProp 𝕄} {v2 : BitVec 32} :
    iprop(core I K c 19 16 0)
    ⊢ iprop((core I K c 19 18 0
          -∗ WP c (kt ⟨(addf (ext (piece I 2 c 0)) (ext (piece I 2 (c - 2) 2))), piece I 2 (c - 3) 3⟩) Q)
        -∗ WP c (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (ext (piece I 2 c 0)) >>= kt) Q) := by
  rw [k0_part24_eq_skeleton]; unfold k0_part24_skel
  simp only [semWaitWord, Prog.lift, Prog.bind_op, Prog.bind_ret, Prog.pure_eq_ret]
  iintro HC Hk
  iapply (recv_piece I K c 19 16 0 2 0 rfl rfl rfl (by decide)) $$ HC
  iintro HC
  iapply (load_piece I K c 19 17 0 2 0 2 2 2 rfl rfl rfl rfl) $$ HC
  iintro HC
  iapply (recv_piece I K c 19 17 0 2 2 rfl rfl rfl (by decide)) $$ HC
  iintro HC
  iapply (load_piece I K c 19 18 0 2 2 2 3 3 rfl rfl rfl rfl) $$ HC
  iintro HC
  rw [pay38_eq, pay39_eq]
  iapply Hk $$ HC

/-- The last piece is added and the sum is stored as the result. -/
theorem part25 {kt : PUnit → Prog (TpuEff nD τ sig (Elt F) Λ₀ .tc) α} {Q : α → sProp 𝕄} {v2 : BitVec 32} :
    iprop(core I K c 19 18 0
      ∗ (∃ f, stag c cc0_stg7_0 f))
    ⊢ iprop((core I K c 19 19 1
          ∗ stag c cc0_stg7_0 (redA (piece I 2) c)
          -∗ WP c (kt ⟨⟩) Q)
        -∗ WP c (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (addf (ext (piece I 2 c 0)) (ext (piece I 2 (c - 2) 2))) (piece I 2 (c - 3) 3) >>= kt) Q) := by
  rw [k0_part25_eq_skeleton]; unfold k0_part25_skel
  simp only [semWaitWord, Prog.lift, Prog.bind_op, Prog.bind_ret, Prog.pure_eq_ret]
  iintro ⟨HC, H7⟩ Hk
  iapply (recv_piece I K c 19 18 0 2 4 rfl rfl rfl (by decide)) $$ HC
  iintro HC
  iapply (load_piece I K c 19 19 0 2 4 2 1 1 rfl rfl rfl rfl) $$ HC
  iintro HC
  icases H7 with ⟨%f, H7⟩
  iapply (load_whole c f (by decide)) $$ H7
  iintro H7
  iapply (store_whole c f (redA (piece I 2) c) (by decide) (pay40_eq _ _ _)) $$ H7
  iintro H7
  iapply (left_piece I K c 19 0 0 0 rfl rfl rfl) $$ HC
  iintro HC
  iapply Hk
  isplitl [HC]; · iexact HC
  iexact H7

/-- Two departures. -/
theorem part26 {kt : PUnit → Prog (TpuEff nD τ sig (Elt F) Λ₀ .tc) α} {Q : α → sProp 𝕄} :
    iprop(core I K c 19 19 1)
    ⊢ iprop((core I K c 19 19 3
          -∗ WP c (kt ⟨⟩) Q)
        -∗ WP c (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c >>= kt) Q) := by
  rw [k0_part26_eq_skeleton]; unfold k0_part26_skel
  simp only [semWaitWord, Prog.lift, Prog.bind_op, Prog.bind_ret, Prog.pure_eq_ret]
  iintro HC Hk
  iapply (left_piece I K c 19 1 0 1 rfl rfl rfl) $$ HC
  iintro HC
  iapply (left_piece I K c 19 2 0 4 rfl rfl rfl) $$ HC
  iintro HC
  iapply Hk $$ HC

/-- Three departures. -/
theorem part27 {kt : PUnit → Prog (TpuEff nD τ sig (Elt F) Λ₀ .tc) α} {Q : α → sProp 𝕄} :
    iprop(core I K c 19 19 3)
    ⊢ iprop((core I K c 19 19 6
          -∗ WP c (kt ⟨⟩) Q)
        -∗ WP c (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c >>= kt) Q) := by
  rw [k0_part27_eq_skeleton]; unfold k0_part27_skel
  simp only [semWaitWord, Prog.lift, Prog.bind_op, Prog.bind_ret, Prog.pure_eq_ret]
  iintro HC Hk
  iapply (left_piece I K c 19 3 0 3 rfl rfl rfl) $$ HC
  iintro HC
  iapply (left_piece I K c 19 4 0 2 rfl rfl rfl) $$ HC
  iintro HC
  iapply (left_piece I K c 19 5 0 5 rfl rfl rfl) $$ HC
  iintro HC
  iapply Hk $$ HC

/-- Three departures. -/
theorem part28 {kt : PUnit → Prog (TpuEff nD τ sig (Elt F) Λ₀ .tc) α} {Q : α → sProp 𝕄} :
    iprop(core I K c 19 19 6)
    ⊢ iprop((core I K c 19 19 9
          -∗ WP c (kt ⟨⟩) Q)
        -∗ WP c (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c >>= kt) Q) := by
  rw [k0_part28_eq_skeleton]; unfold k0_part28_skel
  simp only [semWaitWord, Prog.lift, Prog.bind_op, Prog.bind_ret, Prog.pure_eq_ret]
  iintro HC Hk
  iapply (left_act I K c 19 6 0 1 rfl rfl) $$ HC
  iintro HC
  iapply (left_act I K c 19 7 0 0 rfl rfl) $$ HC
  iintro HC
  iapply (left_piece I K c 19 8 1 0 rfl rfl rfl) $$ HC
  iintro HC
  iapply Hk $$ HC

/-- Three departures. -/
theorem part29 {kt : PUnit → Prog (TpuEff nD τ sig (Elt F) Λ₀ .tc) α} {Q : α → sProp 𝕄} :
    iprop(core I K c 19 19 9)
    ⊢ iprop((core I K c 19 19 12
          -∗ WP c (kt ⟨⟩) Q)
        -∗ WP c (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c >>= kt) Q) := by
  rw [k0_part29_eq_skeleton]; unfold k0_part29_skel
  simp only [semWaitWord, Prog.lift, Prog.bind_op, Prog.bind_ret, Prog.pure_eq_ret]
  iintro HC Hk
  iapply (left_piece I K c 19 9 1 1 rfl rfl rfl) $$ HC
  iintro HC
  iapply (left_piece I K c 19 10 1 4 rfl rfl rfl) $$ HC
  iintro HC
  iapply (left_piece I K c 19 11 1 3 rfl rfl rfl) $$ HC
  iintro HC
  iapply Hk $$ HC

/-- Three departures. -/
theorem part30 {kt : PUnit → Prog (TpuEff nD τ sig (Elt F) Λ₀ .tc) α} {Q : α → sProp 𝕄} :
    iprop(core I K c 19 19 12)
    ⊢ iprop((core I K c 19 19 15
          -∗ WP c (kt ⟨⟩) Q)
        -∗ WP c (k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c >>= kt) Q) := by
  rw [k0_part30_eq_skeleton]; unfold k0_part30_skel
  simp only [semWaitWord, Prog.lift, Prog.bind_op, Prog.bind_ret, Prog.pure_eq_ret]
  iintro HC Hk
  iapply (left_piece I K c 19 12 1 2 rfl rfl rfl) $$ HC
  iintro HC
  iapply (left_piece I K c 19 13 1 5 rfl rfl rfl) $$ HC
  iintro HC
  iapply (left_act I K c 19 14 1 1 rfl rfl) $$ HC
  iintro HC
  iapply Hk $$ HC

/-- Three departures. -/
theorem part31 {kt : PUnit → Prog (TpuEff nD τ sig (Elt F) Λ₀ .tc) α} {Q : α → sProp 𝕄} :
    iprop(core I K c 19 19 15)
    ⊢ iprop((core I K c 19 19 18
          -∗ WP c (kt ⟨⟩) Q)
        -∗ WP c (k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c >>= kt) Q) := by
  rw [k0_part31_eq_skeleton]; unfold k0_part31_skel
  simp only [semWaitWord, Prog.lift, Prog.bind_op, Prog.bind_ret, Prog.pure_eq_ret]
  iintro HC Hk
  iapply (left_act I K c 19 15 1 0 rfl rfl) $$ HC
  iintro HC
  iapply (left_piece I K c 19 16 2 0 rfl rfl rfl) $$ HC
  iintro HC
  iapply (left_piece I K c 19 17 2 4 rfl rfl rfl) $$ HC
  iintro HC
  iapply Hk $$ HC

end Cert.Mlp
-- ==== Proof.Body.lean ====
/-
# The kernel's body, all of it

The parts one after the other: from the launch's resources of one device to what it holds when it returns.
-/
module

public import proofs.«01_k».proof.Proof.Body1
public import proofs.«01_k».proof.Proof.Body2

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : Dev nD × Cel → ℕ) (c : Dev nD) {α : Type}

/-- The windows of the buffer of pieces, a device's own names for the row blocks. -/
def partIdx : List (Fin 3 × Fin 4) := [(0, 0), (0, 1), (0, 2), (0, 3), (1, 0), (1, 1), (1, 2), (1, 3), (2, 0), (2, 1), (2, 2), (2, 3)]

/-- A window of that buffer at any contents. -/
def anyPart (p : Fin 3 × Fin 4) : sProp 𝕄 := iprop(∃ v, owns (c : Thread nD τ) (partW p.1 (c + p.2)) fullShare v)
/-- A window of the buffer of outgoing activations at any contents. -/
def anyXout (k : Fin 2) : sProp 𝕄 := iprop(∃ v, owns (c : Thread nD τ) (xoutW k) fullShare v)

theorem anyParts_eq : (bigSepL partIdx (anyPart c) : sProp 𝕄)
    = iprop((∃ v, owns (c : Thread nD τ) (partW 0 (c + 0)) fullShare v)
      ∗ (∃ v, owns (c : Thread nD τ) (partW 0 (c + 1)) fullShare v)
      ∗ (∃ v, owns (c : Thread nD τ) (partW 0 (c + 2)) fullShare v)
      ∗ (∃ v, owns (c : Thread nD τ) (partW 0 (c + 3)) fullShare v)
      ∗ (∃ v, owns (c : Thread nD τ) (partW 1 (c + 0)) fullShare v)
      ∗ (∃ v, owns (c : Thread nD τ) (partW 1 (c + 1)) fullShare v)
      ∗ (∃ v, owns (c : Thread nD τ) (partW 1 (c + 2)) fullShare v)
      ∗ (∃ v, owns (c : Thread nD τ) (partW 1 (c + 3)) fullShare v)
      ∗ (∃ v, owns (c : Thread nD τ) (partW 2 (c + 0)) fullShare v)
      ∗ (∃ v, owns (c : Thread nD τ) (partW 2 (c + 1)) fullShare v)
      ∗ (∃ v, owns (c : Thread nD τ) (partW 2 (c + 2)) fullShare v)
      ∗ (∃ v, owns (c : Thread nD τ) (partW 2 (c + 3)) fullShare v)) := rfl
theorem anyXouts_eq : (bigSepL [0, 1] (anyXout c) : sProp 𝕄) = iprop((∃ v, owns (c : Thread nD τ) (xoutW 0) fullShare v) ∗ (∃ v, owns (c : Thread nD τ) (xoutW 1) fullShare v)) := rfl

/-- The staged inputs. -/
def staged : sProp 𝕄 :=
  iprop(stag c cc0_stg0_0 (I.x c)
    ∗ stag c cc0_stg1_0 (I.wi 0 c)
    ∗ stag c cc0_stg2_0 (I.wo 0 c)
    ∗ stag c cc0_stg3_0 (I.wi 1 c)
    ∗ stag c cc0_stg4_0 (I.wo 1 c)
    ∗ stag c cc0_stg5_0 (I.wi 2 c)
    ∗ stag c cc0_stg6_0 (I.wo 2 c))

/-- What is left of the windows of pieces beside the halves the copies give back. -/
def rest : sProp 𝕄 :=
  iprop(owns (c : Thread nD τ) (partW 0 (c + 2)) fullShare.right (piece I 0 c 2)
    ∗ owns (c : Thread nD τ) (partW 0 (c + 0)) fullShare.right (piece I 0 c 0)
    ∗ owns (c : Thread nD τ) (partW 1 (c + 2)) fullShare.right (piece I 1 c 2)
    ∗ owns (c : Thread nD τ) (partW 1 (c + 0)) fullShare.right (piece I 1 c 0)
    ∗ owns (c : Thread nD τ) (partW 2 (c + 0)) fullShare (piece I 2 c 0)
    ∗ owns (c : Thread nD τ) (partW 2 (c + 2)) fullShare.right (piece I 2 c 2)
    ∗ owns (c : Thread nD τ) (partW 2 (c + 1)) fullShare.right (piece I 2 c 1)
    ∗ owns (c : Thread nD τ) (partW 2 (c + 3)) fullShare.right (piece I 2 c 3))

/-- The tokens a device pays its barrier signals with, each with the windows given. -/
def hello : sProp 𝕄 :=
  iprop((dutyTok ER (barCell (c + 1)) 0 3 ∗ bigSepL (ordTo 3) (held c)) ∗ (dutyTok ER (barCell (c + 2)) 0 2 ∗ bigSepL (ordTo 2) (held c))
    ∗ (dutyTok ER (barCell (c + 3)) 0 1 ∗ bigSepL (ordTo 1) (held c)))

/-- The body at device `c`: every copy started, arrived and left, the inputs unchanged, the sum of the device's own rows
    stored as the result. -/
theorem body_run {Q : PUnit → sProp 𝕄} :
    iprop(recs I K ∗ (∃ W, owes (c : Thread nD τ) (owe0 c) W) ∗ hello c ∗ ready c ∗ bigSepL partIdx (anyPart c) ∗ bigSepL [0, 1] (anyXout c)
      ∗ staged I c ∗ (∃ f, stag c cc0_stg7_0 f))
    ⊢ iprop((core I K c 19 19 19 ∗ atPos ER (barCell c) 1 ∅ 0 ∗ staged I c ∗ stag c cc0_stg7_0 (redA (piece I 2) c) ∗ rest I c -∗ Q ⟨⟩)
        -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0_body_eq_skeleton]; unfold cc0_body_skel
  rw [anyParts_eq, anyXouts_eq]
  unfold hello staged rest
  iintro ⟨#HR, HO, ⟨T1, T2, T3⟩, Hr, ⟨W00, W01, W02, W03, W10, W11, W12, W13, W20, W21, W22, W23⟩, ⟨X0, X1⟩, ⟨HX, H1, H2, H3, H4, H5, H6⟩, H7⟩ Hk
  iapply (part1 I K c) $$ [HO T1 T2 T3 H1 H2]
  · isplitr; · iexact HR
    isplitl [HO]; · iexact HO
    isplitl [T1]; · iexact T1
    isplitl [T2]; · iexact T2
    isplitl [T3]; · iexact T3
    isplitl [H1]; · iexact H1
    iexact H2
  iintro %v2 %v4 %v6 %v8 ⟨HO, H1, H2⟩
  iapply (part2 I K c) $$ [HO Hr HX W02]
  · isplitr; · iexact HR
    isplitl [HO]; · iexact HO
    isplitl [Hr]; · iexact Hr
    isplitl [HX]; · iexact HX
    iexact W02
  iintro ⟨HC, Hb, HX, R02⟩
  iapply (part3 I K c) $$ [HC HX W00]
  · isplitl [HC]; · iexact HC
    isplitl [HX]; · iexact HX
    iexact W00
  iintro ⟨HC, HX, R00⟩
  iapply (part4 I K c) $$ [HC W01]
  · isplitl [HC]; · iexact HC
    iexact W01
  iintro ⟨HC, R01⟩
  iapply (part5 I K c) $$ [HC HX R01 W03]
  · isplitl [HC]; · iexact HC
    isplitl [HX]; · iexact HX
    isplitl [R01]; · iexact R01
    iexact W03
  iintro ⟨HC, HX, R03⟩
  iapply (part6 I K c) $$ [HC R03 R00]
  · isplitl [HC]; · iexact HC
    isplitl [R03]; · iexact R03
    iexact R00
  iintro ⟨HC, R00⟩
  iapply (part7 I K c) $$ HC
  iintro HC
  iapply (part8 I K c) $$ [HC X0]
  · isplitl [HC]; · iexact HC
    iexact X0
  iintro ⟨HC, RX⟩
  iapply (part9 I K c) $$ [HC RX R02]
  · isplitl [HC]; · iexact HC
    isplitl [RX]; · iexact RX
    iexact R02
  iintro ⟨HC, R02⟩
  iapply (part10 I K c) $$ [HC H3 H4]
  · isplitl [HC]; · iexact HC
    isplitl [H3]; · iexact H3
    iexact H4
  iintro ⟨HC, H3, H4⟩
  iapply (part11 I K c) $$ [HC W12 W10]
  · isplitl [HC]; · iexact HC
    isplitl [W12]; · iexact W12
    iexact W10
  iintro ⟨HC, W10, R12⟩
  iapply (part12 I K c) $$ [HC W10]
  · isplitl [HC]; · iexact HC
    iexact W10
  iintro ⟨HC, R10⟩
  iapply (part13 I K c) $$ [HC W11]
  · isplitl [HC]; · iexact HC
    iexact W11
  iintro ⟨HC, R11⟩
  iapply (part14 I K c) $$ [HC R11 W13]
  · isplitl [HC]; · iexact HC
    isplitl [R11]; · iexact R11
    iexact W13
  iintro ⟨HC, W13⟩
  iapply (part15 I K c) $$ [HC W13 R10]
  · isplitl [HC]; · iexact HC
    isplitl [W13]; · iexact W13
    iexact R10
  iintro ⟨HC, R10⟩
  iapply (part16 I K c) $$ HC
  iintro HC
  iapply (part17 I K c) $$ [HC X1]
  · isplitl [HC]; · iexact HC
    iexact X1
  iintro ⟨HC, X1⟩
  iapply (part18 I K c) $$ [HC X1 R12]
  · isplitl [HC]; · iexact HC
    isplitl [X1]; · iexact X1
    iexact R12
  iintro ⟨HC, R12⟩
  iapply (part19 I K c) $$ HC
  iintro HC
  iapply (part20 I K c) $$ [HC H5 H6 W22]
  · isplitl [HC]; · iexact HC
    isplitl [H5]; · iexact H5
    isplitl [H6]; · iexact H6
    iexact W22
  iintro ⟨HC, H5, H6, W22⟩
  iapply (part21 I K c) $$ [HC W22 W20]
  · isplitl [HC]; · iexact HC
    isplitl [W22]; · iexact W22
    iexact W20
  iintro ⟨HC, W20, R22⟩
  iapply (part22 I K c) $$ [HC W21]
  · isplitl [HC]; · iexact HC
    iexact W21
  iintro ⟨HC, R21⟩
  iapply (part23 I K c) $$ [HC W23 W20]
  · isplitl [HC]; · iexact HC
    isplitl [W23]; · iexact W23
    iexact W20
  iintro ⟨HC, W20, R23⟩
  iapply (part24 I K c) $$ HC
  iintro HC
  iapply (part25 I K c) $$ [HC H7]
  · isplitl [HC]; · iexact HC
    iexact H7
  iintro ⟨HC, H7⟩
  iapply (part26 I K c) $$ HC
  iintro HC
  iapply (part27 I K c) $$ HC
  iintro HC
  iapply (part28 I K c) $$ HC
  iintro HC
  iapply (part29 I K c) $$ HC
  iintro HC
  iapply (part30 I K c) $$ HC
  iintro HC
  iapply (part31 I K c) $$ HC
  iintro HC
  iapply (left_piece I K c 19 18 2 2 rfl rfl rfl) $$ HC
  iintro HC
  simp only [Prog.bind, Prog.pure_eq_ret, WP, wp_ret]
  imodintro
  iapply Hk
  isplitl [HC]; · iexact HC
  isplitl [Hb]; · iexact Hb
  isplitl [HX H1 H2 H3 H4 H5 H6]
  · isplitl [HX]; · iexact HX
    isplitl [H1]; · iexact H1
    isplitl [H2]; · iexact H2
    isplitl [H3]; · iexact H3
    isplitl [H4]; · iexact H4
    isplitl [H5]; · iexact H5
    iexact H6
  isplitl [H7]; · iexact H7
  isplitl [R02]; · iexact R02
  isplitl [R00]; · iexact R00
  isplitl [R12]; · iexact R12
  isplitl [R10]; · iexact R10
  isplitl [W20]; · iexact W20
  isplitl [R22]; · iexact R22
  isplitl [R21]; · iexact R21
  iexact R23

end Cert.Mlp
-- ==== Proof.Windows.lean ====
/-
# Cutting the scratch buffers into windows and putting them back

A device starts with its four scratch buffers whole and works with their windows. Before the exchange each buffer is
cut, and after it the windows, the halves of the sources that the copies gave back among them, are joined again.
-/
module

public import proofs.«01_k».proof.Proof.Body
public import Idealize.ShloMosaic.Lib.Ring

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (K : Dev nD × Cel → ℕ) (c : Dev nD)

/-! ## One window -/

/-- A window cut from a whole buffer, held at any contents, is its elements held at any contents. -/
theorem owns_any (b : Ref sig .tc) (r : Rect b.ty.shape) (hr : ∀ a, r.stride a = 1) (t : Shape) (hs : r.shape.Squeezes t) (q : PosShare TreeShare) :
    (iprop(∃ v, owns (c : Thread nD τ) (((Memref.whole b).slice r hr).squeeze t hs) q v) : sProp 𝕄)
      = iprop(∃ f : Buf (Elt F) ((c : Thread nD τ).loc b), ((c : Thread nD τ).loc b) ↦[r.set]{q} f) := by
  have hset : (((Memref.whole b).slice r hr).squeeze t hs).view.set = r.set := by
    rw [← View.set_slice_whole b r]; exact View.set_reshape _ _
  unfold owns
  rw [hset]
  have h₁ : (iprop(∃ v, ∃ f : Buf (Elt F) ((c : Thread nD τ).loc b), ⌜(((Memref.whole b).slice r hr).squeeze t hs).view.read (Elt F) f = v⌝ ∗ ((c : Thread nD τ).loc b) ↦[r.set]{q} f) : sProp 𝕄)
      ⊢ iprop(∃ f : Buf (Elt F) ((c : Thread nD τ).loc b), ((c : Thread nD τ).loc b) ↦[r.set]{q} f) := by
    iintro ⟨%v, %f, -, H⟩; iexists f; iexact H
  have h₂ : (iprop(∃ f : Buf (Elt F) ((c : Thread nD τ).loc b), ((c : Thread nD τ).loc b) ↦[r.set]{q} f) : sProp 𝕄)
      ⊢ iprop(∃ v, ∃ f : Buf (Elt F) ((c : Thread nD τ).loc b), ⌜(((Memref.whole b).slice r hr).squeeze t hs).view.read (Elt F) f = v⌝ ∗ ((c : Thread nD τ).loc b) ↦[r.set]{q} f) := by
    iintro ⟨%f, H⟩; iexists _; iexists f
    isplitr; · (ipureintro; rfl)
    iexact H
  exact equiv_iff.mp ⟨h₁, h₂⟩

/-- The two halves of a window are the window. -/
theorem owns_join (m : Memref sig .tc .vmem S128x256 .bf16) (v : S128x256.Idx → Elt F .bf16) :
    iprop(owns (c : Thread nD τ) m fullShare.left v ∗ owns (c : Thread nD τ) m fullShare.right v) ⊢ (owns (c : Thread nD τ) m fullShare v : sProp 𝕄) := by
  unfold owns
  iintro ⟨⟨%f, %hf, H₁⟩, ⟨%g, %hg, H₂⟩⟩
  have hfg : ∀ i ∈ m.view.set, g i = f i := fun i hi => by
    obtain ⟨x, -, rfl⟩ := Finset.mem_map.mp hi
    have h := congrFun (hg.trans hf.symm) x
    exact eq_of_heq (by
      have := h
      simpa [View.read] using this)
  ihave H₂ := (Entails.of_eq (pointsTo_congr hfg)) $$ H₂
  iexists f
  isplitr; · ipureintro; exact hf
  iapply (pointsTo_share (PosShare.mem_left_op_right fullShare)).2
  isplitl [H₁] <;> iassumption

theorem dev_cancel (j j' : Fin 4) : c + j = c + j' → j = j' := by revert c j j'; decide

/-! ## Each buffer, cut -/

/-- A buffer whole at any contents, cut along disjoint covering rectangles. -/
theorem cut_any {ι : Type} [Fintype ι] [DecidableEq ι] (b : Ref sig .tc) (r : ι → Rect b.ty.shape)
    (hd : ∀ i j, i ≠ j → Disjoint (r i).set (r j).set) (hc : ∀ x : b.ty.shape.Idx, ∃ i, x ∈ (r i).set)
    (P : ι → sProp 𝕄) (hP : ∀ i, P i = iprop(∃ f : Buf (Elt F) ((c : Thread nD τ).loc b), ((c : Thread nD τ).loc b) ↦[(r i).set]{fullShare} f)) :
    (iprop(∃ f : Buf (Elt F) ((c : Thread nD τ).loc b), ((c : Thread nD τ).loc b) ↦{fullShare} f) : sProp 𝕄) = bigSep Finset.univ P := by
  have hc' : Finset.univ.biUnion (fun i => (r i).set) = Finset.univ := by
    ext x
    simp only [Finset.mem_biUnion, Finset.mem_univ, true_and, iff_true]
    exact hc x
  rw [bigSep_congr fun i _ => hP i]
  have h₁ : (iprop(∃ f : Buf (Elt F) ((c : Thread nD τ).loc b), ((c : Thread nD τ).loc b) ↦{fullShare} f) : sProp 𝕄)
      ⊢ bigSep Finset.univ fun i => iprop(∃ f : Buf (Elt F) ((c : Thread nD τ).loc b), ((c : Thread nD τ).loc b) ↦[(r i).set]{fullShare} f) := by
    iintro ⟨%f, H⟩
    ihave H := (Entails.of_eq (Ring.pointsTo_blocks (ℓ := (c : Thread nD τ).loc b) (fun i => (r i).set) hd hc' f)) $$ H
    have h : (bigSep Finset.univ fun i => (((c : Thread nD τ).loc b) ↦[(r i).set]{fullShare} f : sProp 𝕄))
        ⊢ bigSep Finset.univ fun i => iprop(∃ f : Buf (Elt F) ((c : Thread nD τ).loc b), ((c : Thread nD τ).loc b) ↦[(r i).set]{fullShare} f) :=
      bigSep_mono fun i _ => show (((c : Thread nD τ).loc b) ↦[(r i).set]{fullShare} f : sProp 𝕄)
          ⊢ iprop(∃ f : Buf (Elt F) ((c : Thread nD τ).loc b), ((c : Thread nD τ).loc b) ↦[(r i).set]{fullShare} f) from by
        iintro H; iexists f; iexact H
    iapply h $$ H
  exact equiv_iff.mp ⟨h₁, Ring.pointsTo_blocks_join_exists (ℓ := (c : Thread nD τ).loc b) (fun i => (r i).set) hd hc' (fun _ => Classical.arbitrary _)⟩

theorem part_cut : (iprop(∃ f : Buf (Elt F) ((c : Thread nD τ).loc cc0_scratch0), ((c : Thread nD τ).loc cc0_scratch0) ↦{fullShare} f) : sProp 𝕄)
    = bigSepL partIdx (anyPart c) := by
  rw [cut_any c cc0_scratch0 (fun p : Fin 3 × Fin 4 => partRect p.1 (c + p.2)) ?_ ?_ (anyPart c) fun p => owns_any c cc0_scratch0 _ _ _ _ _]
  · exact bigSep_univ_eq_bigSepL partIdx (by decide) (by decide) _
  · rintro ⟨k, j⟩ ⟨k', j'⟩ h
    by_cases hk : k = k'
    · subst hk
      have hj : (c + j).val ≠ (c + j').val := fun e => h (by rw [dev_cancel c j j' (Fin.ext e)])
      refine Rect.disjoint_of_axis _ _ (1 : Fin 3) fun j₁ h₁ j₂ h₂ => ?_
      have e₁ : j₁ < 128 := h₁
      have e₂ : j₂ < 128 := h₂
      show 128 * (c + j).val + 1 * j₁ ≠ 128 * (c + j').val + 1 * j₂
      omega
    · have hk' : k.val ≠ k'.val := fun e => hk (Fin.ext e)
      refine Rect.disjoint_of_axis _ _ (0 : Fin 3) fun j₁ h₁ j₂ h₂ => ?_
      have e₁ : j₁ < 1 := h₁
      have e₂ : j₂ < 1 := h₂
      show k.val + 1 * j₁ ≠ k'.val + 1 * j₂
      omega
  · intro x
    have hx0 : (x 0).val < 3 := (x 0).isLt
    have hx1 : (x 1).val < 512 := (x 1).isLt
    have hx2 : (x 2).val < 256 := (x 2).isLt
    let q : Fin 4 := ⟨(x 1).val / 128, by omega⟩
    refine ⟨(⟨(x 0).val, hx0⟩, q - c), Rect.mem_set_unit.mpr fun a => ?_⟩
    have hq : c + (q - c) = q := by revert c; generalize q = q; revert q; decide
    fin_cases a
    · exact ⟨Nat.le_refl _, Nat.lt_succ_self _⟩
    · show 128 * (c + (q - c)).val ≤ (x 1).val ∧ (x 1).val < 128 * (c + (q - c)).val + 128
      rw [hq]; show 128 * ((x 1).val / 128) ≤ (x 1).val ∧ (x 1).val < 128 * ((x 1).val / 128) + 128
      omega
    · exact ⟨Nat.zero_le _, by show (x 2).val < 0 + 256; omega⟩

theorem xout_cut : (iprop(∃ f : Buf (Elt F) ((c : Thread nD τ).loc cc0_scratch3), ((c : Thread nD τ).loc cc0_scratch3) ↦{fullShare} f) : sProp 𝕄)
    = bigSepL [0, 1] (anyXout c) := by
  rw [cut_any c cc0_scratch3 (fun k : Fin 2 => xoutRect k) ?_ ?_ (anyXout c) fun p => owns_any c cc0_scratch3 _ _ _ _ _]
  · exact bigSep_univ_eq_bigSepL [0, 1] (by decide) (by decide) _
  · intro k k' h
    have hk' : k.val ≠ k'.val := fun e => h (Fin.ext e)
    refine Rect.disjoint_of_axis _ _ (0 : Fin 3) fun j₁ h₁ j₂ h₂ => ?_
    have e₁ : j₁ < 1 := h₁
    have e₂ : j₂ < 1 := h₂
    show k.val + 1 * j₁ ≠ k'.val + 1 * j₂
    omega
  · intro x
    have hx0 : (x 0).val < 2 := (x 0).isLt
    have hx1 : (x 1).val < 128 := (x 1).isLt
    have hx2 : (x 2).val < 256 := (x 2).isLt
    refine ⟨⟨(x 0).val, hx0⟩, Rect.mem_set_unit.mpr fun a => ?_⟩
    fin_cases a
    · exact ⟨Nat.le_refl _, Nat.lt_succ_self _⟩
    · exact ⟨Nat.zero_le _, by show (x 1).val < 0 + 128; omega⟩
    · exact ⟨Nat.zero_le _, by show (x 2).val < 0 + 256; omega⟩

theorem piece_cut : (iprop(∃ f : Buf (Elt F) ((c : Thread nD τ).loc cc0_scratch1), ((c : Thread nD τ).loc cc0_scratch1) ↦{fullShare} f) : sProp 𝕄)
    = bigSep Finset.univ fun p : Fin 3 × Fin 6 => held c (.inl p) := by
  refine cut_any c cc0_scratch1 (fun p : Fin 3 × Fin 6 => pieceRect p) ?_ ?_ (fun p => held c (.inl p)) fun p => owns_any c cc0_scratch1 (pieceRect p) (fun _ => rfl) S128x256 squeezes_S1x1x128x256_S128x256 fullShare
  · rintro ⟨k, j⟩ ⟨k', j'⟩ h
    by_cases hk : k = k'
    · subst hk
      have hj : j.val ≠ j'.val := fun e => h (by rw [Fin.ext e])
      refine Rect.disjoint_of_axis _ _ (1 : Fin 4) fun j₁ h₁ j₂ h₂ => ?_
      have e₁ : j₁ < 1 := h₁
      have e₂ : j₂ < 1 := h₂
      show j.val + 1 * j₁ ≠ j'.val + 1 * j₂
      omega
    · have hk' : k.val ≠ k'.val := fun e => hk (Fin.ext e)
      refine Rect.disjoint_of_axis _ _ (0 : Fin 4) fun j₁ h₁ j₂ h₂ => ?_
      have e₁ : j₁ < 1 := h₁
      have e₂ : j₂ < 1 := h₂
      show k.val + 1 * j₁ ≠ k'.val + 1 * j₂
      omega
  · intro x
    have hx0 : (x 0).val < 3 := (x 0).isLt
    have hx1 : (x 1).val < 6 := (x 1).isLt
    have hx2 : (x 2).val < 128 := (x 2).isLt
    have hx3 : (x 3).val < 256 := (x 3).isLt
    refine ⟨(⟨(x 0).val, hx0⟩, ⟨(x 1).val, hx1⟩), Rect.mem_set_unit.mpr fun a => ?_⟩
    fin_cases a
    · exact ⟨Nat.le_refl _, Nat.lt_succ_self _⟩
    · exact ⟨Nat.le_refl _, Nat.lt_succ_self _⟩
    · exact ⟨Nat.zero_le _, by show (x 2).val < 0 + 128; omega⟩
    · exact ⟨Nat.zero_le _, by show (x 3).val < 0 + 256; omega⟩

theorem xin_cut : (iprop(∃ f : Buf (Elt F) ((c : Thread nD τ).loc cc0_scratch2), ((c : Thread nD τ).loc cc0_scratch2) ↦{fullShare} f) : sProp 𝕄)
    = bigSep Finset.univ fun p : Fin 2 × Fin 2 => held c (.inr p) := by
  refine cut_any c cc0_scratch2 (fun p : Fin 2 × Fin 2 => xinRect p) ?_ ?_ (fun p => held c (.inr p)) fun p => owns_any c cc0_scratch2 (xinRect p) (fun _ => rfl) S128x256 squeezes_S1x1x128x256_S128x256 fullShare
  · rintro ⟨k, j⟩ ⟨k', j'⟩ h
    by_cases hk : k = k'
    · subst hk
      have hj : j.val ≠ j'.val := fun e => h (by rw [Fin.ext e])
      refine Rect.disjoint_of_axis _ _ (1 : Fin 4) fun j₁ h₁ j₂ h₂ => ?_
      have e₁ : j₁ < 1 := h₁
      have e₂ : j₂ < 1 := h₂
      show j.val + 1 * j₁ ≠ j'.val + 1 * j₂
      omega
    · have hk' : k.val ≠ k'.val := fun e => hk (Fin.ext e)
      refine Rect.disjoint_of_axis _ _ (0 : Fin 4) fun j₁ h₁ j₂ h₂ => ?_
      have e₁ : j₁ < 1 := h₁
      have e₂ : j₂ < 1 := h₂
      show k.val + 1 * j₁ ≠ k'.val + 1 * j₂
      omega
  · intro x
    have hx0 : (x 0).val < 2 := (x 0).isLt
    have hx1 : (x 1).val < 2 := (x 1).isLt
    have hx2 : (x 2).val < 128 := (x 2).isLt
    have hx3 : (x 3).val < 256 := (x 3).isLt
    refine ⟨(⟨(x 0).val, hx0⟩, ⟨(x 1).val, hx1⟩), Rect.mem_set_unit.mpr fun a => ?_⟩
    fin_cases a
    · exact ⟨Nat.le_refl _, Nat.lt_succ_self _⟩
    · exact ⟨Nat.le_refl _, Nat.lt_succ_self _⟩
    · exact ⟨Nat.zero_le _, by show (x 2).val < 0 + 128; omega⟩
    · exact ⟨Nat.zero_le _, by show (x 3).val < 0 + 256; omega⟩

/-- Something for every channel: for the copies that are made and for the three that are not. -/
theorem all_ch (Φ : Ch → sProp 𝕄) : bigSep Finset.univ Φ = iprop(bigSepL ord Φ ∗ bigSepL dead Φ) := by
  rw [← bigSepL_append]
  exact bigSep_univ_eq_bigSepL (ord ++ dead) (by decide) (by decide) Φ

theorem held_all : bigSep Finset.univ (held (F := F) c)
    = iprop((bigSep Finset.univ fun p : Fin 3 × Fin 6 => held c (.inl p)) ∗ (bigSep Finset.univ fun p : Fin 2 × Fin 2 => held c (.inr p))) :=
  bigSep_univ_sum _

/-- The four scratch buffers at any contents are all their windows at any contents. -/
theorem scratch_cut : (Pipeline.scopedRest (Ix := Unit) (Name := ℕ) (U := UU) (Lvl := ℕ) (Val := Elt F) spec0 c : sProp 𝕄)
    = iprop(bigSepL partIdx (anyPart c) ∗ (bigSepL ord (held c) ∗ bigSepL dead (held c)) ∗ bigSepL [0, 1] (anyXout c)) := by
  rw [scopedRest0_eq, part_cut, piece_cut, xin_cut, xout_cut, ← all_ch, held_all, sepA]

/-! ## After the exchange -/

theorem back_eq : (bigSepL ord (sendPay I c) : sProp 𝕄)
    = iprop(owns (c : Thread nD τ) (partW 0 (c + 2)) fullShare.left (piece I 0 c 2)
      ∗ owns (c : Thread nD τ) (partW 0 (c + 0)) fullShare.left (piece I 0 c 0)
      ∗ owns (c : Thread nD τ) (partW 0 (c + 1)) fullShare.left (piece I 0 c 1)
      ∗ owns (c : Thread nD τ) (partW 0 (c + 1)) fullShare.right (piece I 0 c 1)
      ∗ owns (c : Thread nD τ) (partW 0 (c + 3)) fullShare.left (piece I 0 c 3)
      ∗ owns (c : Thread nD τ) (partW 0 (c + 3)) fullShare.right (piece I 0 c 3)
      ∗ owns (c : Thread nD τ) (xoutW 0) fullShare.left (act I 1 c 0)
      ∗ owns (c : Thread nD τ) (xoutW 0) fullShare.right (act I 1 c 0)
      ∗ owns (c : Thread nD τ) (partW 1 (c + 2)) fullShare.left (piece I 1 c 2)
      ∗ owns (c : Thread nD τ) (partW 1 (c + 0)) fullShare.left (piece I 1 c 0)
      ∗ owns (c : Thread nD τ) (partW 1 (c + 1)) fullShare.left (piece I 1 c 1)
      ∗ owns (c : Thread nD τ) (partW 1 (c + 1)) fullShare.right (piece I 1 c 1)
      ∗ owns (c : Thread nD τ) (partW 1 (c + 3)) fullShare.left (piece I 1 c 3)
      ∗ owns (c : Thread nD τ) (partW 1 (c + 3)) fullShare.right (piece I 1 c 3)
      ∗ owns (c : Thread nD τ) (xoutW 1) fullShare.left (act I 2 c 0)
      ∗ owns (c : Thread nD τ) (xoutW 1) fullShare.right (act I 2 c 0)
      ∗ owns (c : Thread nD τ) (partW 2 (c + 2)) fullShare.left (piece I 2 c 2)
      ∗ owns (c : Thread nD τ) (partW 2 (c + 1)) fullShare.left (piece I 2 c 1)
      ∗ owns (c : Thread nD τ) (partW 2 (c + 3)) fullShare.left (piece I 2 c 3)) := rfl

theorem join_any (m : Memref sig .tc .vmem S128x256 .bf16) (v : S128x256.Idx → Elt F .bf16) :
    iprop(owns (c : Thread nD τ) m fullShare.left v ∗ owns (c : Thread nD τ) m fullShare.right v) ⊢ (iprop(∃ v, owns (c : Thread nD τ) m fullShare v) : sProp 𝕄) :=
  (owns_join c m v).trans (by iintro H; iexists v; iexact H)

/-- The halves the copies gave back and those the device kept are all the windows the copies were read from. -/
theorem sources_joined : iprop(bigSepL ord (sendPay I c) ∗ rest I c) ⊢ (iprop(bigSepL partIdx (anyPart c) ∗ bigSepL [0, 1] (anyXout c)) : sProp 𝕄) := by
  rw [back_eq, anyParts_eq, anyXouts_eq]
  unfold rest
  iintro ⟨⟨A02, A00, A01, B01, A03, B03, X0, Y0, A12, A10, A11, B11, A13, B13, X1, Y1, A22, A21, A23⟩, B02, B00, B12, B10, H20, B22, B21, B23⟩
  isplitl [A00 B00 A01 B01 A02 B02 A03 B03 A10 B10 A11 B11 A12 B12 A13 B13 H20 A21 B21 A22 B22 A23 B23]
  · isplitl [A00 B00]
    · iapply (join_any c _ _); isplitl [A00] <;> iassumption
    isplitl [A01 B01]
    · iapply (join_any c _ _); isplitl [A01] <;> iassumption
    isplitl [A02 B02]
    · iapply (join_any c _ _); isplitl [A02] <;> iassumption
    isplitl [A03 B03]
    · iapply (join_any c _ _); isplitl [A03] <;> iassumption
    isplitl [A10 B10]
    · iapply (join_any c _ _); isplitl [A10] <;> iassumption
    isplitl [A11 B11]
    · iapply (join_any c _ _); isplitl [A11] <;> iassumption
    isplitl [A12 B12]
    · iapply (join_any c _ _); isplitl [A12] <;> iassumption
    isplitl [A13 B13]
    · iapply (join_any c _ _); isplitl [A13] <;> iassumption
    isplitl [H20]
    · iexists _; iexact H20
    isplitl [A21 B21]
    · iapply (join_any c _ _); isplitl [A21] <;> iassumption
    isplitl [A22 B22]
    · iapply (join_any c _ _); isplitl [A22] <;> iassumption
    iapply (join_any c _ _); isplitl [A23] <;> iassumption
  isplitl [X0 Y0]
  · iapply (join_any c _ _); isplitl [X0] <;> iassumption
  iapply (join_any c _ _); isplitl [X1] <;> iassumption

theorem arrived_held : (bigSepL rord (recvPay I c) : sProp 𝕄) ⊢ bigSepL ord (held c) := by
  rw [listSep_perm (held c) (show ord.Perm rord by decide)]
  refine listSep_mono_mem _ _ fun ch _ => ?_
  unfold recvPay held
  iintro H; iexists _; iexact H

/-! ## Closing the cells -/

/-- The round a device ends at in each of its cells. -/
def lastRound : Cel → ℕ
  | none => 1
  | some (_, ch) => if live ch then 1 else 0

theorem no_more (p : Dev nD × Cel) : ∀ r, lastRound p.2 ≤ r → (sched I).duties (cellAt p) r = ∅ := fun r hr => by
  obtain ⟨d, x⟩ := p
  rcases Nat.eq_zero_or_pos r with rfl | h
  · rw [duties_cell]
    rcases x with _ | ⟨b, ch⟩
    · exact absurd hr (Nat.not_succ_le_zero 0)
    · show (if live ch then ({0} : Finset (Fin 4)) else ∅) = ∅
      by_cases hl : live ch = true
      · exact absurd hr (by show ¬ (if live ch then 1 else 0) ≤ 0; rw [if_pos hl]; decide)
      · rw [if_neg hl]
  · exact duties_later I _ r h

/-- Something for every cell: for the barrier, for the departures and for the arrivals. -/
theorem all_cel (Φ : Cel → sProp 𝕄) : bigSep Finset.univ Φ
    = iprop(Φ none ∗ (bigSepL ord (fun ch => Φ (some (false, ch))) ∗ bigSepL dead (fun ch => Φ (some (false, ch))))
      ∗ (bigSepL ord (fun ch => Φ (some (true, ch))) ∗ bigSepL dead (fun ch => Φ (some (true, ch))))) := by
  rw [bigSep_univ_eq_bigSepL (none :: ((ord ++ dead).map (fun ch => some (false, ch)) ++ (ord ++ dead).map (fun ch => some (true, ch))))
    (by decide) (by decide) Φ, bigSepL_cons', bigSepL_append, bigSepL_map, bigSepL_map, bigSepL_append, bigSepL_append]

theorem close_all : iprop(recs I K ∗ atPos ER (barCell c) 1 ∅ 0
      ∗ (bigSepL ord (fun ch => atPos ER (sendCell c ch) 1 ∅ 0) ∗ bigSepL dead (fun ch => atPos ER (sendCell c ch) 0 ∅ 0))
      ∗ (bigSepL ord (fun ch => atPos ER (recvCell c ch) 1 ∅ 0) ∗ bigSepL dead (fun ch => atPos ER (recvCell c ch) 0 ∅ 0)))
    ⊢ (|={Set.univ}=> bigSep Finset.univ fun x : Cel => semVal (cellAt (c, x)) 0 : sProp 𝕄) := by
  have hpos : (iprop(atPos ER (barCell c) 1 ∅ 0
      ∗ (bigSepL ord (fun ch => atPos ER (sendCell c ch) 1 ∅ 0) ∗ bigSepL dead (fun ch => atPos ER (sendCell c ch) 0 ∅ 0))
      ∗ (bigSepL ord (fun ch => atPos ER (recvCell c ch) 1 ∅ 0) ∗ bigSepL dead (fun ch => atPos ER (recvCell c ch) 0 ∅ 0))) : sProp 𝕄)
      = bigSep Finset.univ fun x : Cel => atPos ER (cellAt (c, x)) (lastRound x) ∅ 0 := by
    rw [all_cel]; rfl
  rw [hpos]
  refine BIBase.Entails.trans (BI.bigSep_with_persistent (R := recs I K)
    (Ψ := fun x : Cel => iprop(cellInv ER (sched I) (K (c, x)) (cellAt (c, x)) ∗ atPos ER (cellAt (c, x)) (lastRound x) ∅ 0)) fun x _ => ?_)
    (cells_close ER (sched I) Finset.univ (fun x : Cel => cellAt (c, x)) (fun x => K (c, x)) (fun _ _ => Set.mem_univ _) (fun _ _ h => h)
      lastRound (fun x _ => no_more I (c, x)))
  iintro ⟨#HR, H⟩
  isplitr; · iapply (recs_inv I K (c, x)); iexact HR
  iexact H

end Cert.Mlp
-- ==== Proof.Region.lean ====
/-
# The kernel call of one device, from its launch to its return

What a device is given when the kernel call starts, the run of the body from it, and what the device holds after:
its inputs unchanged, its result, its scratch buffers whole, every cell at zero and nothing owed.
-/
module

public import proofs.«01_k».proof.Proof.Windows

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

/-! ## The exchange's end -/

section Finish

variable (I : Inputs F) (K : Dev nD × Cel → ℕ) (c : Dev nD)

theorem core_end : core I K c 19 19 19
    = iprop(recs I K ∗ (∃ W, owes (c : Thread nD τ) 0 W) ∗ emp ∗ emp ∗ bigSepL ord (back I c) ∗ emp ∗ bigSepL rord (got I c)) := rfl
theorem back_split : bigSepL ord (back I c) = iprop(bigSepL ord (fun ch => atPos ER (sendCell c ch) 1 ∅ 0) ∗ bigSepL ord (sendPay I c)) :=
  listSep_sep (fun ch => atPos ER (sendCell c ch) 1 ∅ 0) (sendPay I c) ord
theorem got_split : bigSepL rord (got I c) = iprop(bigSepL ord (fun ch => atPos ER (recvCell c ch) 1 ∅ 0) ∗ bigSepL rord (recvPay I c)) := by
  rw [listSep_perm (fun ch => (atPos ER (recvCell c ch) 1 ∅ 0 : sProp 𝕄)) (show ord.Perm rord by decide)]
  exact listSep_sep (fun ch => atPos ER (recvCell c ch) 1 ∅ 0) (recvPay I c) rord

/-- What a device keeps of the three copies that are not made. -/
def unused : sProp 𝕄 :=
  iprop(bigSepL dead (held c) ∗ bigSepL dead (fun ch => atPos ER (sendCell c ch) 0 ∅ 0) ∗ bigSepL dead (fun ch => atPos ER (recvCell c ch) 0 ∅ 0))

/-- Nothing owed, the scratch buffers whole, every cell at zero. -/
theorem finish : iprop(core I K c 19 19 19 ∗ atPos ER (barCell c) 1 ∅ 0 ∗ rest I c ∗ unused c)
    ⊢ (|={Set.univ}=> iprop((∃ W, owes (c : Thread nD τ) 0 W) ∗ Pipeline.scopedRest (Ix := Unit) (Name := ℕ) (U := UU) (Lvl := ℕ) (Val := Elt F) spec0 c
      ∗ bigSep Finset.univ fun x : Cel => semVal (cellAt (c, x)) 0) : sProp 𝕄) := by
  rw [core_end, back_split, got_split, scratch_cut]
  unfold unused
  iintro ⟨⟨#HR, HO, -, -, ⟨HsA, HsP⟩, -, HrA, HrP⟩, Hb, Hrest, Hd, HdS, HdR⟩
  ihave Hsrc := (sources_joined I c) $$ [HsP Hrest]
  · isplitl [HsP] <;> iassumption
  icases Hsrc with ⟨Hpart, Hxout⟩
  ihave Hdst := (arrived_held I c) $$ HrP
  imod (close_all I K c) $$ [Hb HsA HdS HrA HdR] with Hz
  · isplitr; · iexact HR
    isplitl [Hb]; · iexact Hb
    isplitl [HsA HdS]
    · isplitl [HsA] <;> iassumption
    isplitl [HrA] <;> iassumption
  imodintro
  isplitl [HO]; · iexact HO
  isplitr [Hz]
  · isplitl [Hpart]; · iexact Hpart
    isplitl [Hdst Hd]
    · isplitl [Hdst] <;> iassumption
    iexact Hxout
  iexact Hz

/-! ## What a device starts from -/

/-- The duties a device pays: its three barrier signals, its copies' departures and arrivals. -/
def payToks : sProp 𝕄 :=
  iprop((dutyTok ER (barCell (c + 1)) 0 3 ∗ dutyTok ER (barCell (c + 2)) 0 2 ∗ dutyTok ER (barCell (c + 3)) 0 1)
    ∗ bigSepL ord (fun ch => dutyTok ER (sendCell c ch) 0 0) ∗ bigSepL ord (fun ch => dutyTok ER (recvCell (c + hop ch) ch) 0 0))
/-- Its place at each of its cells. -/
def places : sProp 𝕄 := bigSep Finset.univ fun x : Cel => atPos ER (cellAt (c, x)) 0 ∅ 0
/-- The credit for what the others will signal and send it. -/
def creds : sProp 𝕄 := iprop(cred (tallyAt (barCell c) () 3) ∗ bigSepL rord (fun ch => cred (tallyAt (recvCell c ch) () (N ch))))

theorem places_eq : (places c : sProp 𝕄) = iprop(atPos ER (barCell c) 0 ∅ 0
      ∗ (bigSepL ord (fun ch => atPos ER (sendCell c ch) 0 ∅ 0) ∗ bigSepL dead (fun ch => atPos ER (sendCell c ch) 0 ∅ 0))
      ∗ (bigSepL ord (fun ch => atPos ER (recvCell c ch) 0 ∅ 0) ∗ bigSepL dead (fun ch => atPos ER (recvCell c ch) 0 ∅ 0))) := all_cel _

theorem ord_split (Φ : Ch → sProp 𝕄) : bigSepL ord Φ = iprop(bigSepL (ordTo 3) Φ ∗ bigSepL (ordTo 2) Φ ∗ bigSepL (ordTo 1) Φ) := by
  rw [← bigSepL_append, ← bigSepL_append]
  exact listSep_perm _ (by decide)

theorem ready_eq : (ready c : sProp 𝕄) = iprop((bigSepL ord (fun ch => dutyTok ER (sendCell c ch) 0 0) ∗ bigSepL ord (fun ch => dutyTok ER (recvCell (c + hop ch) ch) 0 0)
      ∗ bigSepL ord (fun ch => atPos ER (sendCell c ch) 0 ∅ 0))
    ∗ (bigSepL ord (fun ch => atPos ER (recvCell c ch) 0 ∅ 0) ∗ bigSepL rord (fun ch => cred (tallyAt (recvCell c ch) () (N ch))))
    ∗ atPos ER (barCell c) 0 ∅ 0 ∗ cred (tallyAt (barCell c) () 3)) := by
  rw [listSep_perm (fun ch => (atPos ER (recvCell c ch) 0 ∅ 0 : sProp 𝕄)) (show ord.Perm rord by decide),
    ← listSep_sep, ← listSep_sep, ← listSep_sep]
  rfl

/-- The launch's resources, as the body takes them. -/
theorem begin_run : iprop(payToks c ∗ places c ∗ creds c ∗ Pipeline.scopedRest (Ix := Unit) (Name := ℕ) (U := UU) (Lvl := ℕ) (Val := Elt F) spec0 c)
    ⊢ (iprop(hello c ∗ ready c ∗ bigSepL partIdx (anyPart c) ∗ bigSepL [0, 1] (anyXout c) ∗ unused c) : sProp 𝕄) := by
  rw [places_eq, scratch_cut, ready_eq, ord_split (held c)]
  unfold payToks creds hello unused
  iintro ⟨⟨⟨T3, T2, T1⟩, TS, TR⟩, ⟨PB, ⟨PS, PSd⟩, ⟨PR, PRd⟩⟩, ⟨CB, CR⟩, Hpart, ⟨⟨W3, W2, W1⟩, Wd⟩, Hx⟩
  isplitl [T3 T2 T1 W3 W2 W1]
  · isplitl [T3 W3]; · isplitl [T3] <;> iassumption
    isplitl [T2 W2]; · isplitl [T2] <;> iassumption
    isplitl [T1] <;> iassumption
  isplitl [TS TR PB PS PR CB CR]
  · isplitl [TS TR PS]
    · isplitl [TS]; · iexact TS
      isplitl [TR] <;> iassumption
    isplitl [PR CR]; · isplitl [PR] <;> iassumption
    isplitl [PB] <;> iassumption
  isplitl [Hpart]; · iexact Hpart
  isplitl [Hx]; · iexact Hx
  isplitl [Wd]; · iexact Wd
  isplitl [PSd] <;> iassumption

/-- The body, from what the launch gives to what the return takes. -/
theorem region_run {Q : PUnit → sProp 𝕄} :
    iprop((recs I K ∗ payToks c ∗ places c ∗ creds c) ∗ Pipeline.scopedRest (Ix := Unit) (Name := ℕ) (U := UU) (Lvl := ℕ) (Val := Elt F) spec0 c
      ∗ (∃ W, owes (c : Thread nD τ) (owe0 c) W) ∗ staged I c ∗ (∃ f, stag c cc0_stg7_0 f))
    ⊢ iprop((Pipeline.scopedRest (Ix := Unit) (Name := ℕ) (U := UU) (Lvl := ℕ) (Val := Elt F) spec0 c ∗ (bigSep Finset.univ fun x : Cel => semVal (cellAt (c, x)) 0)
          ∗ (∃ W, owes (c : Thread nD τ) 0 W) ∗ staged I c ∗ stag c cc0_stg7_0 (redA (piece I 2) c) -∗ Q ⟨⟩)
        -∗ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  iintro ⟨⟨#HR, HT, HP, HC⟩, Hscr, HO, Hst, Hout⟩ Hk
  ihave H := (begin_run c) $$ [HT HP HC Hscr]
  · isplitl [HT]; · iexact HT
    isplitl [HP]; · iexact HP
    isplitl [HC] <;> iassumption
  icases H with ⟨Hh, Hr, Hpart, Hx, Hun⟩
  iapply (wp_fupd frame (wpE (defs₀ (F := F)) 𝒱₀ (c : Thread nD τ) none) Set.univ _ Q)
  iapply (body_run I K c) $$ [HO Hh Hr Hpart Hx Hst Hout]
  · isplitr; · iexact HR
    isplitl [HO]; · iexact HO
    isplitl [Hh]; · iexact Hh
    isplitl [Hr]; · iexact Hr
    isplitl [Hpart]; · iexact Hpart
    isplitl [Hx]; · iexact Hx
    isplitl [Hst] <;> iassumption
  iintro ⟨HC, Hb, Hst, Hout, Hrest⟩
  imod (finish I K c) $$ [HC Hb Hrest Hun] with ⟨HO, Hscr, Hz⟩
  · isplitl [HC]; · iexact HC
    isplitl [Hb]; · iexact Hb
    isplitl [Hrest] <;> iassumption
  imodintro
  iapply Hk
  isplitl [Hscr]; · iexact Hscr
  isplitl [Hz]; · iexact Hz
  isplitl [HO]; · iexact HO
  isplitl [Hst] <;> iassumption

end Finish

/-! ## The proof data of the kernel call -/

section Data

variable (m : (ℓ : Loc nD τ sig) → Buf (Elt F) ℓ)

/-- The inputs, read off the memory the program starts in. -/
def inp : Inputs F where
  x c := m ((c : Thread nD τ).loc main_arg0)
  wi k c := match k with
    | 0 => m ((c : Thread nD τ).loc main_arg1)
    | 1 => m ((c : Thread nD τ).loc main_arg2)
    | _ => m ((c : Thread nD τ).loc main_arg3)
  wo k c := match k with
    | 0 => m ((c : Thread nD τ).loc main_arg4)
    | 1 => m ((c : Thread nD τ).loc main_arg5)
    | _ => m ((c : Thread nD τ).loc main_arg6)

variable (c : Dev nD)

/-- What a device's body starts from. -/
def start : sProp 𝕄 := iprop(∃ K, recs (inp m) K ∗ payToks c ∗ places c ∗ creds c)

def Phi0 : sProp 𝕄 := iprop(start m c ∗ Pipeline.scopedRest (Ix := Unit) (Name := ℕ) (U := UU) (Lvl := ℕ) (Val := Elt F) spec0 c)
def Phi1 : sProp 𝕄 :=
  iprop(Pipeline.scopedRest (Ix := Unit) (Name := ℕ) (U := UU) (Lvl := ℕ) (Val := Elt F) spec0 c ∗ bigSep Finset.univ fun x : Cel => semVal (cellAt (c, x)) 0)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => redA (piece (inp m) 2) c
    | ⟨_ + 8, h⟩ => absurd h (Nat.not_lt.2 (Nat.le_add_left _ _))
  Φ t := match t with
    | ⟨0, _⟩ => Phi0 m c
    | ⟨_ + 1, _⟩ => Phi1 c
  q _ := fullShare
  owed t := match t with
    | ⟨0, _⟩ => owe0 c
    | ⟨_ + 1, _⟩ => 0

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before0 (d) : (dats m 0 c).before (0 : Fin 8) t0_0 d = (inp m).x c := by
  unfold Dat.before; rw [if_pos (fetch0_0 t0_0)]
  refine funext fun y => ?_
  show m ((c : Thread nD τ).loc main_arg0) ((win0_0.blk t0_0).view.emb y) = m ((c : Thread nD τ).loc main_arg0) y
  exact congrArg _ (funext fun a => Fin.ext (win0_0.rect_emb_val_of_index_zero t0_0 a rfl y))
theorem before1 (d) : (dats m 0 c).before (1 : Fin 8) t0_0 d = (inp m).wi 0 c := by
  unfold Dat.before; rw [if_pos (fetch0_1 t0_0)]
  refine funext fun y => ?_
  show m ((c : Thread nD τ).loc main_arg1) ((win0_1.blk t0_0).view.emb y) = m ((c : Thread nD τ).loc main_arg1) y
  exact congrArg _ (funext fun a => Fin.ext (win0_1.rect_emb_val_of_index_zero t0_0 a rfl y))
theorem before2 (d) : (dats m 0 c).before (2 : Fin 8) t0_0 d = (inp m).wo 0 c := by
  unfold Dat.before; rw [if_pos (fetch0_2 t0_0)]
  refine funext fun y => ?_
  show m ((c : Thread nD τ).loc main_arg4) ((win0_2.blk t0_0).view.emb y) = m ((c : Thread nD τ).loc main_arg4) y
  exact congrArg _ (funext fun a => Fin.ext (win0_2.rect_emb_val_of_index_zero t0_0 a rfl y))
theorem before3 (d) : (dats m 0 c).before (3 : Fin 8) t0_0 d = (inp m).wi 1 c := by
  unfold Dat.before; rw [if_pos (fetch0_3 t0_0)]
  refine funext fun y => ?_
  show m ((c : Thread nD τ).loc main_arg2) ((win0_3.blk t0_0).view.emb y) = m ((c : Thread nD τ).loc main_arg2) y
  exact congrArg _ (funext fun a => Fin.ext (win0_3.rect_emb_val_of_index_zero t0_0 a rfl y))
theorem before4 (d) : (dats m 0 c).before (4 : Fin 8) t0_0 d = (inp m).wo 1 c := by
  unfold Dat.before; rw [if_pos (fetch0_4 t0_0)]
  refine funext fun y => ?_
  show m ((c : Thread nD τ).loc main_arg5) ((win0_4.blk t0_0).view.emb y) = m ((c : Thread nD τ).loc main_arg5) y
  exact congrArg _ (funext fun a => Fin.ext (win0_4.rect_emb_val_of_index_zero t0_0 a rfl y))
theorem before5 (d) : (dats m 0 c).before (5 : Fin 8) t0_0 d = (inp m).wi 2 c := by
  unfold Dat.before; rw [if_pos (fetch0_5 t0_0)]
  refine funext fun y => ?_
  show m ((c : Thread nD τ).loc main_arg3) ((win0_5.blk t0_0).view.emb y) = m ((c : Thread nD τ).loc main_arg3) y
  exact congrArg _ (funext fun a => Fin.ext (win0_5.rect_emb_val_of_index_zero t0_0 a rfl y))
theorem before6 (d) : (dats m 0 c).before (6 : Fin 8) t0_0 d = (inp m).wo 2 c := by
  unfold Dat.before; rw [if_pos (fetch0_6 t0_0)]
  refine funext fun y => ?_
  show m ((c : Thread nD τ).loc main_arg6) ((win0_6.blk t0_0).view.emb y) = m ((c : Thread nD τ).loc main_arg6) y
  exact congrArg _ (funext fun a => Fin.ext (win0_6.rect_emb_val_of_index_zero t0_0 a rfl y))

/-- What the kernel call's one grid point starts from and ends with, window by window. -/
def pointPre : sProp 𝕄 :=
  iprop(Phi0 m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))
def pointPost : sProp 𝕄 :=
  iprop(Phi1 c ∗ (dats m 0 c).owesAt () t0_0.succ
    ∗ stg c cc0_stg0_0 ((inp m).x c)
    ∗ stg c cc0_stg1_0 ((inp m).wi 0 c)
    ∗ stg c cc0_stg2_0 ((inp m).wo 0 c)
    ∗ stg c cc0_stg3_0 ((inp m).wi 1 c)
    ∗ stg c cc0_stg4_0 ((inp m).wo 1 c)
    ∗ stg c cc0_stg5_0 ((inp m).wi 2 c)
    ∗ stg c cc0_stg6_0 ((inp m).wo 2 c)
    ∗ stg c cc0_stg7_0 (redA (piece (inp m) 2) c))

theorem stg_intro (b : Ref sig .tc) (X : b.ty.Contents (Elt F)) : stag c b X ⊢ (stg c b X : sProp 𝕄) := by
  iintro H; iexists X; isplitr; · (ipureintro; rfl)
  iexact H
theorem stg_elim (b : Ref sig .tc) {X Y : b.ty.Contents (Elt F)} (h : X = Y) : stg c b X ⊢ (stag c b Y : sProp 𝕄) := by
  subst h; iintro ⟨%f, %hf, H⟩; subst hf; iexact H

theorem point_in : pointPre m c ⊢ (iprop(∃ K, (recs (inp m) K ∗ payToks c ∗ places c ∗ creds c)
      ∗ Pipeline.scopedRest (Ix := Unit) (Name := ℕ) (U := UU) (Lvl := ℕ) (Val := Elt F) spec0 c
      ∗ (∃ W, owes (c : Thread nD τ) (owe0 c) W) ∗ staged (inp m) c ∗ (∃ f, stag c cc0_stg7_0 f)) : sProp 𝕄) := by
  unfold pointPre Phi0 start staged Dat.owesAt Pipeline.owesWithin
  iintro ⟨⟨⟨%K, Hg⟩, Hscr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, ⟨%f, %hf, H7⟩⟩⟩
  iexists K
  isplitl [Hg]; · iexact Hg
  isplitl [Hscr]; · iexact Hscr
  isplitl [HO]; · iexists W; iexact HO
  isplitr [H7]
  · isplitl [H0]; · iapply (stg_elim c cc0_stg0_0 (before0 m c d0)) $$ H0
    isplitl [H1]; · iapply (stg_elim c cc0_stg1_0 (before1 m c d1)) $$ H1
    isplitl [H2]; · iapply (stg_elim c cc0_stg2_0 (before2 m c d2)) $$ H2
    isplitl [H3]; · iapply (stg_elim c cc0_stg3_0 (before3 m c d3)) $$ H3
    isplitl [H4]; · iapply (stg_elim c cc0_stg4_0 (before4 m c d4)) $$ H4
    isplitl [H5]; · iapply (stg_elim c cc0_stg5_0 (before5 m c d5)) $$ H5
    iapply (stg_elim c cc0_stg6_0 (before6 m c d6)) $$ H6
  iexists f; iexact H7

theorem point_out : iprop(Pipeline.scopedRest (Ix := Unit) (Name := ℕ) (U := UU) (Lvl := ℕ) (Val := Elt F) spec0 c
      ∗ (bigSep Finset.univ fun x : Cel => semVal (cellAt (c, x)) 0)
      ∗ (∃ W, owes (c : Thread nD τ) 0 W) ∗ staged (inp m) c ∗ stag c cc0_stg7_0 (redA (piece (inp m) 2) c)) ⊢ (pointPost m c : sProp 𝕄) := by
  unfold pointPost Phi1 staged Dat.owesAt Pipeline.owesWithin
  iintro ⟨Hscr, Hz, ⟨%W, HO⟩, ⟨H0, H1, H2, H3, H4, H5, H6⟩, H7⟩
  isplitl [Hscr Hz]; · isplitl [Hscr] <;> iassumption
  isplitl [HO]
  · iexists W
    isplitr; · ipureintro; exact fun _ _ => Or.inl trivial
    iexact HO
  isplitl [H0]; · iapply (stg_intro c cc0_stg0_0 _) $$ H0
  isplitl [H1]; · iapply (stg_intro c cc0_stg1_0 _) $$ H1
  isplitl [H2]; · iapply (stg_intro c cc0_stg2_0 _) $$ H2
  isplitl [H3]; · iapply (stg_intro c cc0_stg3_0 _) $$ H3
  isplitl [H4]; · iapply (stg_intro c cc0_stg4_0 _) $$ H4
  isplitl [H5]; · iapply (stg_intro c cc0_stg5_0 _) $$ H5
  isplitl [H6]; · iapply (stg_intro c cc0_stg6_0 _) $$ H6
  iapply (stg_intro c cc0_stg7_0 _) $$ H7

theorem owns_whole (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 30000 in
/-- The kernel call's body at its only grid point. -/
theorem point_run : BodyObligation (dats (F := F) m 0 c) (defs₀ (F := F)) 𝒱₀ () Set.univ := fun t => by
  rw [fin_N0 t]
  rw [bigSep_W0, bigSep_W0]
  simp only [owns_whole]
  show pointPre m c ⊢ WP c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => pointPost m c)
  iintro H
  ihave H := (point_in m c) $$ H
  icases H with ⟨%K, H⟩
  iapply (region_run (inp m) K c (Q := fun _ => pointPost m c)) $$ H
  iintro H
  iapply (point_out m c) $$ H

end Data

end Cert.Mlp
-- ==== Proof.Launch.lean ====
/-
# The launch of the four kernels

The cells of the exchange are set up for all the devices at once: every semaphore of a device at zero becomes a cell
at its round zero, and the duties of the cells go to the devices that pay them. With the credit for what each device
will be signalled and sent this is what the kernel call of each device starts from; the run of the program follows.
-/
module

public import proofs.«01_k».proof.Proof.Region
public import Idealize.ShloMosaic.Lib.Pipeline.ValueKit
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

/-! ## The semaphores -/

/-- The kernel's own semaphores: all its cells but the barrier's. -/
abbrev osem (x : Bool × Ch) : SemLoc sig := semOf (some x)

theorem ownSemFacts : Pipeline.OwnSemFacts cfg0.spec osem := by decide +kernel

theorem all_opt {A : Type} [Fintype A] [DecidableEq A] (Φ : Option A → sProp 𝕄) :
    bigSep Finset.univ Φ = iprop(Φ none ∗ bigSep Finset.univ fun a => Φ (some a)) := by
  rw [bigSep_univ_at Φ none, show (Finset.univ : Finset (Option A)).erase none = Finset.univ.map Function.Embedding.some from by
    ext x; cases x <;> simp, BI.bigSep_map]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) : (bigSep Finset.univ fun x : Cel => (semVal (cellAt (c, x)) 0 : sProp 𝕄))
    = iprop(unscopedSems0 c ∗ Pipeline.ownSems0 (Ix := Unit) (Name := ℕ) (U := UU) (Lvl := ℕ) (Val := Elt F) (τ := τ) osem c) := by
  rw [unscopedSems0_eq, all_opt]; rfl

/-! ## The cells and the duties, as set up -/

theorem cellAt_inj : Function.Injective (cellAt : Dev nD × Cel → GSem nD τ sig) := by
  rintro ⟨c, x⟩ ⟨d, y⟩ h
  have h₁ : c = d := congrArg (fun g : GSem nD τ sig => g.1.1) h
  have h₂ : x = y := semOf_inj (congrArg Prod.snd h)
  rw [h₁, h₂]

def allCells : Finset (GSem nD τ sig) := Finset.univ.map ⟨cellAt, cellAt_inj⟩

abbrev dutyOf (p : Dev nD × Cel × Fin 4) : GSem nD τ sig × ℕ × Fin 4 := (cellAt (p.1, p.2.1), 0, p.2.2)
theorem dutyOf_inj : Function.Injective dutyOf := by
  rintro ⟨c, x, d⟩ ⟨c', x', d'⟩ h
  have h₁ : (c, x) = (c', x') := cellAt_inj (congrArg Prod.fst h)
  have h₂ : d = d' := congrArg (fun q : GSem nD τ sig × ℕ × Fin 4 => q.2.2) h
  cases h₁; rw [h₂]
def allDuties : Finset (GSem nD τ sig × ℕ × Fin 4) := Finset.univ.map ⟨dutyOf, dutyOf_inj⟩

def u₀ : UU :=
  (initOf (Pipeline.cells cfgs cellOf_inj) (Pipeline.launchToks cfgs cellOf_inj), initOf allCells allDuties)

/-- The duties of one device's cells. -/
def toks (c : Dev nD) : sProp 𝕄 :=
  bigSep Finset.univ fun x : Cel => bigSep Finset.univ fun d : Fin 4 => dutyTok ER (cellAt (c, x)) 0 d

section Setup

variable (m : (ℓ : Loc nD τ sig) → Buf (Elt F) ℓ)

/-- What the set-up deals one device. -/
def G (c : Dev nD) : sProp 𝕄 :=
  iprop((bigSep Finset.univ fun x : Cel => roundState ER (sched (inp m)) (cellAt (c, x)) 0)
    ∗ places c ∗ (bigSep Finset.univ fun x : Cel => reached ER (cellAt (c, x)) 0) ∗ toks c)

theorem fund_all : BI.own (ER (initOf allCells allDuties)) ⊢ (|==> bigSep Finset.univ (G m) : sProp 𝕄) := by
  have hX (Φ : GSem nD τ sig → sProp 𝕄) : bigSep allCells Φ = bigSep Finset.univ fun c : Dev nD => bigSep Finset.univ fun x : Cel => Φ (cellAt (c, x)) := by
    unfold allCells; rw [BI.bigSep_map, bigSep_univ_prod]; rfl
  have hT : bigSep allDuties (fun x => (dutyTok ER x.1 x.2.1 x.2.2 : sProp 𝕄)) = bigSep Finset.univ fun c : Dev nD => toks c := by
    unfold allDuties; rw [BI.bigSep_map, bigSep_univ_prod]
    exact bigSep_congr fun c _ => by unfold toks; rw [bigSep_univ_prod]; rfl
  iintro HX
  imod (Rounds.fund ER (sched (inp m)) allCells allDuties) $$ HX with ⟨Hst, Hr, Hat, Htok⟩
  imodintro
  ihave Hst := (Entails.of_eq (hX fun g => roundState ER (sched (inp m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat]; · iexact Hat
  isplitl [Hr] <;> iassumption

/-- One device's semaphores at zero become cells. -/
theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun x : Cel => iprop(∃ κ : ℕ, cellInv ER (sched (inp m)) κ (cellAt (c, x))))
          ∗ places c ∗ (bigSep Finset.univ fun x : Cel => reached ER (cellAt (c, x)) 0) ∗ toks c) : sProp 𝕄) := by
  have hal : iprop((bigSep Finset.univ fun x : Cel => semVal (cellAt (c, x)) 0) ∗ bigSep Finset.univ fun x : Cel => roundState ER (sched (inp m)) (cellAt (c, x)) 0)
      ⊢ (|={Set.univ}=> bigSep Finset.univ fun x : Cel => iprop(∃ κ : ℕ, cellInv ER (sched (inp m)) κ (cellAt (c, x))) : sProp 𝕄) := by
    rw [← bigSep_sep']
    exact (bigSep_mono fun x _ => (Rounds.body_intro ER (sched (inp m)) (cellAt (c, x))).trans inv_alloc).trans (bigSep_fupd _ _)
  unfold G
  iintro ⟨Hos, Hus, Hst, Hrest⟩
  ihave Hv := (Entails.of_eq (sems_eq c).symm) $$ [Hos Hus]
  · isplitl [Hus] <;> iassumption
  imod hal $$ [Hv Hst] with Hinv
  · isplitl [Hv] <;> iassumption
  imodintro
  isplitl [Hinv] <;> iassumption

/-! ## The duties go to their payers -/

/-- The devices, `d` further round. -/
def turn (d : Dev nD) : Dev nD ≃ Dev nD where
  toFun c := c + d
  invFun c := c - d
  left_inv := by revert d; decide
  right_inv := by revert d; decide

theorem listSep_univ {α : Type} (Φ : Dev nD → α → sProp 𝕄) (l : List α) :
    (bigSep Finset.univ fun c => bigSepL l (Φ c)) = bigSepL l fun a => bigSep Finset.univ fun c => Φ c a := by
  induction l with
  | nil =>
    simp only [bigSepL_nil]
    rw [bigSep_univ_eq_bigSepL [0, 1, 2, 3] (by decide) (by decide)]
    exact (sepE _).trans ((sepE _).trans (sepE _))
  | cons a l ih =>
    simp only [bigSepL_cons']
    rw [bigSep_sep', ih]

theorem toks_pick (c : Dev nD) : toks c ⊢ (iprop((dutyTok ER (barCell c) 0 3 ∗ dutyTok ER (barCell c) 0 2 ∗ dutyTok ER (barCell c) 0 1)
    ∗ bigSepL ord (fun ch => dutyTok ER (sendCell c ch) 0 0) ∗ bigSepL ord (fun ch => dutyTok ER (recvCell c ch) 0 0)) : sProp 𝕄) := by
  unfold toks
  rw [all_cel, bigSep_univ_eq_bigSepL [0, 3, 2, 1] (by decide) (by decide)]
  simp only [bigSepL_cons', bigSepL_nil]
  iintro ⟨⟨-, H3, H2, H1, -⟩, ⟨HS, -⟩, HR, -⟩
  isplitl [H3 H2 H1]
  · isplitl [H3]; · iexact H3
    isplitl [H2]; · iexact H2
    iexact H1
  isplitl [HS]
  · iapply (bigSepL_mono (Φ := fun ch => bigSep Finset.univ fun d : Fin 4 => (dutyTok ER (cellAt (c, some (false, ch))) 0 d : sProp 𝕄))
      (Ψ := fun ch => dutyTok ER (sendCell c ch) 0 0) (l := ord) fun ch _ => BI.bigSep_elim (Finset.mem_univ 0)) $$ HS
  iapply (bigSepL_mono (Φ := fun ch => bigSep Finset.univ fun d : Fin 4 => (dutyTok ER (cellAt (c, some (true, ch))) 0 d : sProp 𝕄))
      (Ψ := fun ch => dutyTok ER (recvCell c ch) 0 0) (l := ord) fun ch _ => BI.bigSep_elim (Finset.mem_univ 0)) $$ HR

theorem toks_around : (bigSep Finset.univ fun c : Dev nD => (toks c : sProp 𝕄)) ⊢ bigSep Finset.univ fun c : Dev nD => payToks c := by
  have hr : (bigSep Finset.univ fun c : Dev nD => bigSepL ord fun ch => (dutyTok ER (recvCell c ch) 0 0 : sProp 𝕄))
      = bigSep Finset.univ fun c : Dev nD => bigSepL ord fun ch => dutyTok ER (recvCell (c + hop ch) ch) 0 0 := by
    rw [listSep_univ, listSep_univ]
    exact congrArg _ (funext fun ch => BI.bigSep_univ_equiv (turn (hop ch)) fun c => dutyTok ER (recvCell c ch) 0 0)
  refine BIBase.Entails.trans (bigSep_mono fun c _ => toks_pick c) ?_
  unfold payToks
  rw [bigSep_sep', bigSep_sep', bigSep_sep', bigSep_sep', bigSep_sep', bigSep_sep', bigSep_sep', bigSep_sep', hr,
    BI.bigSep_univ_equiv (turn 1) (fun c : Dev nD => (dutyTok ER (barCell c) 0 3 : sProp 𝕄)),
    BI.bigSep_univ_equiv (turn 2) (fun c : Dev nD => (dutyTok ER (barCell c) 0 2 : sProp 𝕄)),
    BI.bigSep_univ_equiv (turn 3) (fun c : Dev nD => (dutyTok ER (barCell c) 0 1 : sProp 𝕄))]
  exact BI.Entails.refl _

/-- The cells' invariants and that each is at its round zero, as every device knows them. -/
def shared (K : Dev nD × Cel → ℕ) : sProp 𝕄 :=
  iprop((bigSep Finset.univ fun p : Dev nD × Cel => cellInv ER (sched (inp m)) (K p) (cellAt p))
    ∗ bigSep Finset.univ fun p : Dev nD × Cel => reached ER (cellAt p) 0)

instance shared_persistent (K : Dev nD × Cel → ℕ) : BI.Persistent (shared m K) := by unfold shared; infer_instance

/-- What the set-up leaves one device with. -/
def G' (c : Dev nD) : sProp 𝕄 := iprop(∃ K, shared m K ∗ payToks c ∗ places c)

theorem regroup :
    (bigSep Finset.univ fun c : Dev nD => iprop((bigSep Finset.univ fun x : Cel => iprop(∃ κ : ℕ, cellInv ER (sched (inp m)) κ (cellAt (c, x))))
          ∗ places c ∗ (bigSep Finset.univ fun x : Cel => reached ER (cellAt (c, x)) 0) ∗ toks c) : sProp 𝕄)
      ⊢ bigSep Finset.univ (G' m) := by
  rw [bigSep_sep', bigSep_sep', bigSep_sep', ← bigSep_univ_prod (fun p : Dev nD × Cel => iprop(∃ κ : ℕ, cellInv ER (sched (inp m)) κ (cellAt p))),
    ← bigSep_univ_prod (fun p : Dev nD × Cel => (reached ER (cellAt p) 0 : sProp 𝕄))]
  iintro ⟨HI, Hat, #HR, Htok⟩
  ihave HK := (BI.bigSep_exists_pi Finset.univ (fun (p : Dev nD × Cel) (κ : ℕ) => (cellInv ER (sched (inp m)) κ (cellAt p) : sProp 𝕄))) $$ HI
  icases HK with ⟨%K, #HI⟩
  ihave Htok := (toks_around (F := F)) $$ Htok
  iapply (BI.bigSep_with_persistent (R := shared m K) (Φ := fun c => iprop(payToks c ∗ places c)) fun c _ => show _ ⊢ G' m c from by
    unfold G'; iintro H; iexists K; iexact H)
  isplitr
  · unfold shared; isplitl; · iexact HI
    iexact HR
  rw [bigSep_sep']
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- One unit of what every device owes the cell `x` a fixed way round comes to the cell `y` of device `c` from one device,
    if it is that cell at all. -/
theorem owed_round (h c : Dev nD) (x y : Cel) (n : ℕ) :
    (∑ d : Dev nD, (tallyAt (Ix := Unit) (cellAt (d + h, x)) () n : CellTallies nD τ sig Unit) (cellAt (c, y)) ()) = if x = y then n else 0 := by
  have hk (d : Dev nD) : (tallyAt (Ix := Unit) (cellAt (d + h, x)) () n : CellTallies nD τ sig Unit) (cellAt (c, y)) ()
      = if d = c - h then (if x = y then n else 0) else 0 := by
    rw [tallyAt_apply]
    have hd : d = c - h ↔ c = d + h := by revert d h c; decide
    by_cases hx : x = y
    · subst hx
      by_cases hc : c = d + h
      · rw [if_pos (hd.2 hc), if_pos rfl, if_pos ⟨by rw [hc], rfl⟩]
      · rw [if_neg fun h' => hc (hd.1 h'), if_neg fun h' => hc (congrArg Prod.fst (cellAt_inj h'.1))]
    · rw [if_neg hx, if_neg fun h' => hx (congrArg Prod.snd (cellAt_inj h'.1)).symm, ite_self]
  rw [Finset.sum_congr rfl fun d _ => hk d, Finset.sum_ite_eq' Finset.univ (c - h) fun _ => _, if_pos (Finset.mem_univ _)]

theorem owed_list (c : Dev nD) (y : Cel) (l : List Ch) :
    (∑ d : Dev nD, Ow d l (cellAt (c, y)) ()) = (l.map fun ch => if some (true, ch) = y then N ch else 0).sum := by
  induction l with
  | nil => exact Finset.sum_const_zero
  | cons a l ih =>
    simp only [Ow, Pi.add_apply, Finsupp.add_apply]
    rw [Finset.sum_add_distrib, ih, List.map_cons, List.sum_cons, Nat.add_comm]
    exact congrArg (· + _) (owed_round (hop a) c (some (true, a)) y (N a))

theorem owed_all (c : Dev nD) (y : Cel) :
    (∑ d : Dev nD, owe0 d (cellAt (c, y)) ()) = (ord.map fun ch => if some (true, ch) = y then N ch else 0).sum
      + (if none = y then 1 else 0) + (if none = y then 1 else 0) + (if none = y then 1 else 0) := by
  unfold owe0 owe1 owe2
  simp only [Pi.add_apply, Finsupp.add_apply]
  rw [Finset.sum_add_distrib, Finset.sum_add_distrib, Finset.sum_add_distrib, owed_list]
  rw [show (∑ d : Dev nD, (tallyAt (Ix := Unit) (barCell (d + 1)) () 1 : CellTallies nD τ sig Unit) (cellAt (c, y)) ()) = _ from owed_round 1 c none y 1,
    show (∑ d : Dev nD, (tallyAt (Ix := Unit) (barCell (d + 2)) () 1 : CellTallies nD τ sig Unit) (cellAt (c, y)) ()) = _ from owed_round 2 c none y 1,
    show (∑ d : Dev nD, (tallyAt (Ix := Unit) (barCell (d + 3)) () 1 : CellTallies nD τ sig Unit) (cellAt (c, y)) ()) = _ from owed_round 3 c none y 1]

theorem sum_absent (ch : Ch) (l : List Ch) (h : ch ∉ l) : (l.map fun a => if some (true, a) = some (true, ch) then N a else 0).sum = 0 := by
  induction l with
  | nil => rfl
  | cons a l ih =>
    rw [List.map_cons, List.sum_cons, ih fun h' => h (List.mem_cons_of_mem _ h'), if_neg]
    intro he; cases he; exact h List.mem_cons_self

theorem sum_once (ch : Ch) (l : List Ch) (h : ch ∈ l) (hl : l.Nodup) : (l.map fun a => if some (true, a) = some (true, ch) then N a else 0).sum = N ch := by
  induction l with
  | nil => exact absurd h List.not_mem_nil
  | cons a l ih =>
    rw [List.map_cons, List.sum_cons]
    rcases List.mem_cons.mp h with rfl | h'
    · rw [if_pos rfl, sum_absent ch l (List.nodup_cons.mp hl).1]; rfl
    · rw [ih h' (List.nodup_cons.mp hl).2, if_neg, Nat.zero_add]
      intro he; cases he; exact (List.nodup_cons.mp hl).1 h'

theorem sum_bar (l : List Ch) : (l.map fun a => if some (true, a) = (none : Cel) then N a else 0).sum = 0 := by
  induction l with
  | nil => rfl
  | cons a l ih => rw [List.map_cons, List.sum_cons, ih]; rfl

theorem launch_cell (c : Dev nD) (y : Cel) (n : ℕ) (h : (∑ d : Dev nD, owe0 d (cellAt (c, y)) ()) = n) :
    tallyOn (cellAt (c, y)) (launchCredit (Pipeline.owing owe0) 0 (cellAt (c, y))) = (tallyAt (cellAt (c, y)) () n : CellTallies nD τ sig Unit) := by
  unfold tallyAt; refine congrArg _ (Finsupp.ext fun u => ?_); cases u
  rw [Pipeline.launchCredit_owing, Finsupp.single_eq_same, h]

theorem owed_bar (c : Dev nD) : (∑ d : Dev nD, owe0 d (cellAt (c, none)) ()) = 3 := by
  rw [owed_all, sum_bar, if_pos rfl]
theorem owed_recv (c : Dev nD) (ch : Ch) (h : ch ∈ ord) : (∑ d : Dev nD, owe0 d (cellAt (c, some (true, ch))) ()) = N ch := by
  rw [owed_all, sum_once ch ord h (by decide)]
  rw [if_neg (fun h => nomatch h)]; rfl

theorem creds_intro (c : Dev nD) : (Pipeline.launchCred owe0 c : sProp 𝕄) ⊢ creds c := by
  unfold Pipeline.launchCred creds
  refine BIBase.Entails.trans (BI.bigSep_subset (Finset.subset_univ (Finset.univ.map ⟨semOf, semOf_inj⟩))) ?_
  rw [BI.bigSep_map, all_cel, listSep_perm (fun ch => (cred (tallyAt (recvCell c ch) () (N ch)) : sProp 𝕄)) (show rord.Perm ord by decide)]
  iintro ⟨HB, -, HR, -⟩
  isplitl [HB]
  · iapply (Entails.of_eq (congrArg cred (launch_cell c none 3 (owed_bar c)))) $$ HB
  have hr : (bigSepL ord fun ch => (cred (tallyOn (cellAt (c, some (true, ch))) (launchCredit (Pipeline.owing owe0) 0 (cellAt (c, some (true, ch))))) : sProp 𝕄))
      ⊢ bigSepL ord fun ch => cred (tallyAt (recvCell c ch) () (N ch)) := bigSepL_mono
    fun ch h => Entails.of_eq (congrArg cred (launch_cell c (some (true, ch)) (N ch) (owed_recv c ch h)))
  iapply hr; iexact HR

/-! ## The run -/

variable (ρ : Dev nD → PrngReg)

theorem start_intro (c : Dev nD) :
    iprop(Pipeline.unscopedRestP Pipeline.Prefetch.none cfg0.spec c (fun b => m ((c : Thread nD τ).loc b)) ∗ levAts LL lv
        ∗ Pipeline.launchCred owe0 c ∗ prngReg c (ρ c) ∗ G' m c)
      ⊢ (|={Set.univ}=> iprop(start m c ∗ emp) : sProp 𝕄) := by
  unfold start G' recs shared
  iintro ⟨-, #Hlev, Hcr, -, ⟨%K, ⟨#HI, #HR⟩, Ht, Hp⟩⟩
  ihave Hc := (creds_intro (F := F) c) $$ Hcr
  imodintro
  isplitl
  · iexists K
    isplitr
    · isplitr; · iexact Hlev
      isplitr; · iexact HI
      iexact HR
    isplitl [Ht]; · iexact Ht
    isplitl [Hp] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Phi0 m c from rfl]
  unfold Phi0
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Phi1 c from rfl]
  unfold Phi1
  rw [sems_eq]
  iintro ⟨Hr, Hu, Ho⟩
  isplitl [Hu]; · iexact Hu
  isplitl [Ho] <;> iassumption

theorem waits (c : Dev nD) : (levAts LL lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

theorem share_eq (c : Dev nD) (w : Fin cfg0.W) : (dats m 0 c).share w = fullShare := by unfold Dat.share; split <;> rfl

/-- A window's array on device `c` when the kernel call has returned. -/
def finalA (c : Dev nD) (w : Fin cfg0.W) : Buf (Elt F) ((cfg0.win w).arr.view.loc (c : Thread nD τ)) := (dats m 0 c).arrAt w cfg0.N

set_option maxRecDepth 8000 in
/-- Every weakly fair run of the four kernels ends, with each array at its final contents and every semaphore at zero. -/
theorem run_windows : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := point_run m) (hne := block_pos0) (harr := arr_whole0) (hstage := stage_whole0) (hshare := share_eq m)
    (hdistinct := winFacts0.arr_inj)
    (O₀ := owe0) (howed₀ := fun _ => rfl) (howedN := fun _ => rfl)
    (L := LL) (lv := lv) (hL := LL_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem final_in (c : Dev nD) (w : Fin cfg0.W) (h : (cfg0.win w).isOut = false) : finalA m c w = m ((cfg0.win w).arr.view.loc (c : Thread nD τ)) :=
  (dats m 0 c).arrAt_in w h _

theorem final_out (c : Dev nD) : finalA m c (7 : Fin 8) = (redA (piece (inp m) 2) c : Vec F S128x256 .f32) :=
  (dats m 0 c).arrAt_eq_of_after_last (7 : Fin 8) t0_0 (by decide +kernel) _ fun _ => rfl

/-- Every weakly fair run of the four kernels ends, with each device's result the sum of its rows' last pieces, its
    arguments unchanged and every semaphore at zero. -/
theorem run_main : θ_run defs (onTc (τ := τ) (main (F := F))) ⟨m, fun _ => 0, ρ⟩
    (fun r => (∀ c : Dev nD, r.2.mem ((c : Thread nD τ).loc main_v1) = (redA (piece (inp m) 2) c : Vec F S128x256 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0) :=
  (θ_run defs _ _).mono (fun _ h => ⟨fun c => ⟨(h.1 c (7 : Fin 8)).trans (final_out m c),
    (h.1 c (0 : Fin 8)).trans (final_in m c (0 : Fin 8) rfl),
    (h.1 c (1 : Fin 8)).trans (final_in m c (1 : Fin 8) rfl),
    (h.1 c (3 : Fin 8)).trans (final_in m c (3 : Fin 8) rfl),
    (h.1 c (5 : Fin 8)).trans (final_in m c (5 : Fin 8) rfl),
    (h.1 c (2 : Fin 8)).trans (final_in m c (2 : Fin 8) rfl),
    (h.1 c (4 : Fin 8)).trans (final_in m c (4 : Fin 8) rfl),
    (h.1 c (6 : Fin 8)).trans (final_in m c (6 : Fin 8) rfl)⟩, h.2⟩) (run_windows m ρ)

end Setup

end Cert.Mlp
-- ==== Proof.Ref.lean ====
/-
# The devices' sums against the whole layers

Over exact values a layer of the whole batch is, on every row block, the sum over the devices of their shares: the
hidden units of a layer are those of the four devices one after the other. So the four blocks a device enters a layer
with are the row blocks of what the layers before it make of the whole batch, and what a device ends with is its row
block of the result.
-/
module

public import proofs.«01_k».proof.Proof.Common
public import proofs.«01_k».proof.Proof.Gen.ReferenceIdeal
public import Idealize.ShloMosaic.Lib.Layout
public import Idealize.ShloMosaic.Lib.MatmulPlain
public import Idealize.ShloMosaic.Lib.StackMember
public import Mathlib.Logic.Equiv.Fin.Basic

@[expose] public section

noncomputable section

namespace Cert.Mlp

open Cert.KernelIdeal Cert.KernelIdeal.Gen
open Idealize.ShloMosaic
open Idealize.ShloMosaic.ValueIdx (ix2 eq_ix2)
open scoped BigOperators

/-- A layer of the whole batch, as the reference computes it. -/
def layer {F : FTy → Type} [FloatOps F] (x : FVec F S512x256 .bf16) (wi : FVec F ⟨2, ![256, 2048]⟩ .bf16) (wo : FVec F ⟨2, ![2048, 256]⟩ .bf16) : FVec F S512x256 .bf16 :=
  truncf .bf16 (Host.dotGeneral Cert.ReferenceIdeal.dot_S512x2048_S2048x256_S512x256_1_0_0_1_n_n none
    (maximumf (truncf .bf16 (Host.dotGeneral Cert.ReferenceIdeal.dot_S512x256_S256x2048_S512x2048_1_0_0_1_n_n none x wi) Cert.ReferenceIdeal.Gen.bitsLt_bf16_f32)
      (broadcastInDim Cert.ReferenceIdeal.S512x2048 ![] Cert.ReferenceIdeal.Gen.bcast_S_S512x2048 (constant Cert.ReferenceIdeal.S_ .bf16 0x0000#16))) wo) Cert.ReferenceIdeal.Gen.bitsLt_bf16_f32

/-- What one hidden unit adds to one element of a layer. -/
def unit (x wi : Fin 256 → EReal) (wo : EReal) : EReal := max (∑ t, x t * wi t) 0 * wo

theorem zero_bf16 : Ideal.ofBits .bf16 0x0000#16 = 0 := by simp [Ideal.ofBits, Ideal.ieee]

theorem layer_apply (x : FVec Ideal S512x256 .bf16) (wi : FVec Ideal ⟨2, ![256, 2048]⟩ .bf16) (wo : FVec Ideal ⟨2, ![2048, 256]⟩ .bf16) (r : Fin 512) (n : Fin 256) :
    layer x wi wo (ix2 r n) = ∑ k : Fin 2048, unit (fun t => x (ix2 r t)) (fun t => wi (ix2 t k)) (wo (ix2 k n)) := by
  refine Eq.trans (StackMember.dotGeneral_plain_apply (m := 512) (k := 2048) (n := 256) none _ wo r n) ?_
  refine Finset.sum_congr rfl fun k _ => congrArg (· * wo (ix2 k n)) ?_
  show max (Host.dotGeneral (DotDims.plain 512 256 2048) none x wi (ix2 r k)) (Ideal.ofBits .bf16 0x0000#16) = _
  rw [StackMember.dotGeneral_plain_apply, zero_bf16]

theorem mlp_apply (wi : FVec Ideal S256x512 .bf16) (wo : FVec Ideal S512x256 .bf16) (x : FVec Ideal S128x256 .bf16) (r : Fin 128) (n : Fin 256) :
    mlp wi wo x (ix2 r n) = ∑ k : Fin 512, unit (fun t => x (ix2 r t)) (fun t => wi (ix2 t k)) (wo (ix2 k n)) := by
  refine Eq.trans (Ideal.matmul_plain_apply (M := 128) (K := 512) (N := 256) none _ wo (constant S128x256 .f32 0x00000000#32) r n) ?_
  show Ideal.ofBits .f32 0x00000000#32 + _ = _
  rw [Ideal.ofBits_zero_f32, zero_add]
  refine Finset.sum_congr rfl fun k _ => congrArg (· * wo (ix2 k n)) ?_
  show max (FloatOps.matmul (DotDims.plain 128 256 512) none x wi (constant S128x512 .f32 0x00000000#32) (ix2 r k)) (Ideal.ofBits .f32 0x00000000#32) = _
  rw [Ideal.matmul_plain_apply, Ideal.ofBits_zero_f32]
  show max (Ideal.ofBits .f32 0x00000000#32 + _) 0 = _
  rw [Ideal.ofBits_zero_f32, zero_add]

/-- Row `r` of block `b`, in the whole batch. -/
def rowAt (b : Fin 4) (r : Fin 128) : Fin 512 := ⟨128 * b.val + r.val, by have := b.isLt; have := r.isLt; omega⟩
/-- Hidden unit `k` of device `d`, in the whole layer. -/
def unitAt (d : Fin 4) (k : Fin 512) : Fin 2048 := ⟨d.val * 512 + k.val, by have := d.isLt; have := k.isLt; omega⟩

theorem rows_apply (b : Fin 4) (x : FVec Ideal S512x256 .bf16) (r : Fin 128) (n : Fin 256) : rows b x (ix2 r n) = x (ix2 (rowAt b r) n) := by
  refine congrArg x (funext fun a => Fin.ext ?_)
  match a with
  | ⟨0, _⟩ => show 128 * b.val + 1 * r.val = 128 * b.val + r.val; omega
  | ⟨1, _⟩ => show 0 + 1 * n.val = n.val; omega

theorem sum_units {M : Type} [AddCommMonoid M] (f : Fin 2048 → M) : ∑ d : Fin 4, ∑ k : Fin 512, f (unitAt d k) = ∑ k, f k := by
  rw [← Fintype.sum_prod_type' (fun (d : Fin 4) (k : Fin 512) => f (unitAt d k)), ← Equiv.sum_comp (finProdFinEquiv (m := 4) (n := 512)) f]
  refine Finset.sum_congr rfl fun p _ => congrArg f (Fin.ext ?_)
  show p.1.val * 512 + p.2.val = p.2.val + 512 * p.1.val
  omega

/-- A device's columns of a layer's first weight, and its rows of the second. -/
abbrev cutIn (d : Dev nD) (wi : FVec Ideal ⟨2, ![256, 2048]⟩ .bf16) : FVec Ideal S256x512 .bf16 := Layout.block ⟨2, ![256, 512]⟩ ⟨2, ![256, 2048]⟩ 1 4 d wi
abbrev cutOut (d : Dev nD) (wo : FVec Ideal ⟨2, ![2048, 256]⟩ .bf16) : FVec Ideal S512x256 .bf16 := Layout.block ⟨2, ![512, 256]⟩ ⟨2, ![2048, 256]⟩ 0 4 d wo

theorem cutIn_apply (d : Dev nD) (wi : FVec Ideal ⟨2, ![256, 2048]⟩ .bf16) (t : Fin 256) (k : Fin 512) : cutIn d wi (ix2 t k) = wi (ix2 t (unitAt d k)) := by
  refine congrArg wi (funext fun a => Fin.ext ?_)
  match a with
  | ⟨0, _⟩ => rfl
  | ⟨1, _⟩ => rfl
theorem cutOut_apply (d : Dev nD) (wo : FVec Ideal ⟨2, ![2048, 256]⟩ .bf16) (k : Fin 512) (n : Fin 256) : cutOut d wo (ix2 k n) = wo (ix2 (unitAt d k) n) := by
  refine congrArg wo (funext fun a => Fin.ext ?_)
  match a with
  | ⟨0, _⟩ => rfl
  | ⟨1, _⟩ => rfl

/-- The devices' shares on a row block add up to the layer's rows. -/
theorem sum_shares (x : FVec Ideal S512x256 .bf16) (wi : FVec Ideal ⟨2, ![256, 2048]⟩ .bf16) (wo : FVec Ideal ⟨2, ![2048, 256]⟩ .bf16) (b : Fin 4) (i : S128x256.Idx) :
    (∑ d : Dev nD, mlp (cutIn d wi) (cutOut d wo) (rows b x) i : EReal) = rows b (layer x wi wo) i := by
  obtain ⟨r, n, rfl⟩ : ∃ (r : Fin 128) (n : Fin 256), i = ix2 r n := ⟨i 0, i 1, eq_ix2 i⟩
  rw [rows_apply, layer_apply, ← sum_units]
  refine Finset.sum_congr rfl fun d _ => (mlp_apply _ _ _ _ _).trans (Finset.sum_congr rfl fun k _ => ?_)
  rw [cutOut_apply]
  congr 1
  · exact funext fun t => rows_apply b x _ t
  · exact funext fun t => cutIn_apply d wi t k

/-- Four terms, taken round from any device, are their sum. -/
theorem sum_round (f : Dev nD → EReal) (c : Dev nD) : f c + f (c - 2) + f (c - 3) + f (c - 1) = ∑ d, f d := by
  rw [show (∑ d : Dev nD, f d) = f 0 + f 1 + f 2 + f 3 from Fin.sum_univ_four f]
  fin_cases c
  · show f 0 + f 2 + f 1 + f 3 = _; ac_rfl
  · show f 1 + f 3 + f 2 + f 0 = _; ac_rfl
  · show f 2 + f 0 + f 3 + f 1 = _; ac_rfl
  · show f 3 + f 1 + f 0 + f 2 = _; ac_rfl

section Layers

variable (p : Dev nD → Fin 4 → FVec Ideal S128x256 .bf16) (y : FVec Ideal S512x256 .bf16)

/-- Pieces whose sums over the devices are the row blocks of `y`. -/
def Shares : Prop := ∀ (b : Fin 4) (i : S128x256.Idx), (∑ d : Dev nD, p d (b - d) i : EReal) = rows (F := Ideal) b y i

variable {p y} (h : Shares p y) (c : Dev nD) (i : S128x256.Idx)
include h

theorem redA_eq : redA p c i = rows (F := Ideal) c y i := by
  refine Eq.trans ?_ ((sum_round (fun d => p d (c - d) i) c).trans (h c i))
  show (p c 0 i + p (c - 2) 2 i + p (c - 3) 3 i + p (c - 1) 1 i : EReal) = p c (c - c) i + p (c - 2) (c - (c - 2)) i + p (c - 3) (c - (c - 3)) i + p (c - 1) (c - (c - 1)) i
  rw [show c - c = 0 by revert c; decide, show c - (c - 2) = 2 by revert c; decide, show c - (c - 3) = 3 by revert c; decide, show c - (c - 1) = 1 by revert c; decide]

theorem redB_eq : redB p c i = rows (F := Ideal) (c + 2) y i := by
  refine Eq.trans ?_ ((sum_round (fun d => p d (c + 2 - d) i) c).trans (h (c + 2) i))
  show (p c 2 i + p (c - 2) 0 i + p (c - 3) 1 i + p (c - 1) 3 i : EReal) = p c (c + 2 - c) i + p (c - 2) (c + 2 - (c - 2)) i + p (c - 3) (c + 2 - (c - 3)) i + p (c - 1) (c + 2 - (c - 1)) i
  rw [show c + 2 - c = 2 by revert c; decide, show c + 2 - (c - 2) = 0 by revert c; decide, show c + 2 - (c - 3) = 1 by revert c; decide, show c + 2 - (c - 1) = 3 by revert c; decide]

/-- The blocks a device enters the next layer with are the row blocks of `y`. -/
theorem next_eq (j : Fin 4) : next p c j = rows (c + j) y := by
  funext i
  match j with
  | 0 => exact (redA_eq h c i).trans (by rw [show c + 0 = c by revert c; decide])
  | 1 => exact (redA_eq h (c - 3) i).trans (by rw [show c - 3 = c + 1 by revert c; decide])
  | 2 => exact redB_eq h c i
  | 3 => exact (redA_eq h (c - 1) i).trans (by rw [show c - 1 = c + 3 by revert c; decide])

end Layers

/-! ## The three layers -/

section Whole

variable (x : FVec Ideal S512x256 .bf16) (wi : ℕ → FVec Ideal ⟨2, ![256, 2048]⟩ .bf16) (wo : ℕ → FVec Ideal ⟨2, ![2048, 256]⟩ .bf16)

/-- The whole batch after `k` layers. -/
def after : ℕ → FVec Ideal S512x256 .bf16
  | 0 => x
  | k + 1 => layer (after k) (wi k) (wo k)

variable {x wi wo} {I : Inputs Ideal} (hx : ∀ c, I.x c = x) (hwi : ∀ k c, I.wi k c = cutIn c (wi k)) (hwo : ∀ k c, I.wo k c = cutOut c (wo k))
include hx hwi hwo

theorem shares_of (k : ℕ) (ha : ∀ c j, act I k c j = rows (c + j) (after x wi wo k)) : Shares (piece I k) (after x wi wo (k + 1)) := fun b i => by
  refine Eq.trans (Finset.sum_congr rfl fun d _ => ?_) (sum_shares (after x wi wo k) (wi k) (wo k) b i)
  unfold piece
  rw [ha, hwi, hwo, show d + (b - d) = b by revert b d; decide]

/-- Block `j` of device `c` at layer `k` is row block `c + j` of the batch there. -/
theorem act_eq (k : ℕ) (c : Dev nD) (j : Fin 4) : act I k c j = rows (c + j) (after x wi wo k) := by
  induction k generalizing c j with
  | zero => show rows (c + j) (I.x c) = _; rw [hx]; rfl
  | succ k ih => exact next_eq (shares_of hx hwi hwo k ih) c j

/-- A device's last sum is its row block of the batch after the three layers. -/
theorem result_eq (c : Dev nD) : redA (piece I 2) c
    = Layout.block ⟨2, ![128, 256]⟩ ⟨2, ![512, 256]⟩ 0 4 c (extf .f32 (after x wi wo 3) Cert.ReferenceIdeal.Gen.bitsLt_bf16_f32 : FVec Ideal S512x256 .f32) := by
  funext i
  refine (redA_eq (shares_of hx hwi hwo 2 (act_eq hx hwi hwo 2)) c i).trans ?_
  refine congrArg (after x wi wo 3) (funext fun a => Fin.ext ?_)
  match a with
  | ⟨0, _⟩ => show 128 * c.val + 1 * (i 0).val = c.val * 128 + (i 0).val; omega
  | ⟨1, _⟩ => show 0 + 1 * (i 1).val = (i 1).val; omega

end Whole

end Cert.Mlp
-- ==== Proof.lean ====
/-
# The certificate of the three-layer network on four devices

`Cert.Claim`: the kernel terminates, leaves its arguments as they were and every counter at zero, at the machine's
floats and at exact values; so does the reference; and over exact values each device's result is its row block of the
reference's. The kernel's run is `Cert.Mlp.run_main` (Proof/Launch.lean), which holds at any floats; the values' half
is `Cert.Mlp.result_eq` (Proof/Ref.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.Mlp

theorem quiescent_kernelIdeal : Cert.quiescent_KernelIdeal (hKernelIdeal := Cert.KernelIdeal.Gen.facts) := fun m g _ =>
  (θ_run Cert.KernelIdeal.defs _ _).mono (fun _ h => ⟨fun c => (h.1 c).2, h.2⟩) (run_main (F := Ideal) m g)

section Same

variable {F : FTy → Type} [FloatOps F]

/-- No operation was rewritten for the exact reading, so both readings have one body. -/
theorem body_eq : Cert.Kernel.cc0_body (F := F) = Cert.KernelIdeal.cc0_body (F := F) := rfl

theorem bodies_eq : Cert.Kernel.defs₀ (F := F) = Cert.KernelIdeal.defs₀ (F := F) := by
  unfold Cert.Kernel.defs₀ Cert.KernelIdeal.defs₀
  refine congrArg _ (funext fun l => ?_)
  match l with
  | 0 =>
    funext a
    show Cert.Kernel.cc0_body _ _ _ _ _ _ _ _ _ _ _ _ _ _ _ _ _ _ _ _ _ _ _ _ _ _ _ _ = _
    rw [body_eq]

theorem table_eq : Cert.Kernel.defs (F := F) = Cert.KernelIdeal.defs (F := F) := congrArg (Pipeline.defs Cert.KernelIdeal.pcfgs) bodies_eq

end Same

/-- The kernel's run at the machine's floats: the same run, at those. -/
theorem quiescent_kernel : Cert.quiescent_Kernel (hKernel := Cert.Kernel.Gen.facts) := fun m g _ => by
  rw [table_eq]
  exact (θ_run Cert.KernelIdeal.defs _ _).mono (fun _ h => ⟨fun c => (h.1 c).2, h.2⟩) (run_main (F := Bits) m g)

theorem quiescent_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's argument `b`. -/
abbrev refArg (m : (ℓ : Loc Cert.ReferenceIdeal.nD Cert.ReferenceIdeal.τ Cert.ReferenceIdeal.sig) → Buf (Elt Ideal) ℓ) (b : Ref Cert.ReferenceIdeal.sig .tc) :
    Buf (Elt Ideal) (((0 : Dev Cert.ReferenceIdeal.nD).tc : Thread Cert.ReferenceIdeal.nD Cert.ReferenceIdeal.τ).loc b) :=
  m (((0 : Dev Cert.ReferenceIdeal.nD).tc : Thread Cert.ReferenceIdeal.nD Cert.ReferenceIdeal.τ).loc b)

/-- The reference's weights, layer by layer. -/
def refIn (m : (ℓ : Loc Cert.ReferenceIdeal.nD Cert.ReferenceIdeal.τ Cert.ReferenceIdeal.sig) → Buf (Elt Ideal) ℓ) : ℕ → FVec Ideal ⟨2, ![256, 2048]⟩ .bf16
  | 0 => refArg m Cert.ReferenceIdeal.main_arg1
  | 1 => refArg m Cert.ReferenceIdeal.main_arg2
  | _ => refArg m Cert.ReferenceIdeal.main_arg3
def refOut (m : (ℓ : Loc Cert.ReferenceIdeal.nD Cert.ReferenceIdeal.τ Cert.ReferenceIdeal.sig) → Buf (Elt Ideal) ℓ) : ℕ → FVec Ideal ⟨2, ![2048, 256]⟩ .bf16
  | 0 => refArg m Cert.ReferenceIdeal.main_arg4
  | 1 => refArg m Cert.ReferenceIdeal.main_arg5
  | _ => refArg m Cert.ReferenceIdeal.main_arg6

theorem algebraic : Cert.algebraic_KernelIdeal_ReferenceIdeal (hKernelIdeal := Cert.KernelIdeal.Gen.facts) (hReferenceIdeal := Cert.ReferenceIdeal.Gen.facts) :=
  fun m g m' g' _ hin => by
  have hx : ∀ c, (inp m).x c = refArg m' Cert.ReferenceIdeal.main_arg0 := fun c => (hin c).1
  have hwi : ∀ k c, (inp m).wi k c = cutIn c (refIn m' k) := fun k c => match k with
    | 0 => (hin c).2.1
    | 1 => (hin c).2.2.1
    | _ + 2 => (hin c).2.2.2.1
  have hwo : ∀ k c, (inp m).wo k c = cutOut c (refOut m' k) := fun k c => match k with
    | 0 => (hin c).2.2.2.2.1
    | 1 => (hin c).2.2.2.2.2.1
    | _ + 2 => (hin c).2.2.2.2.2.2
  refine ⟨(extf .f32 (after (refArg m' Cert.ReferenceIdeal.main_arg0) (refIn m') (refOut m') 3) Cert.ReferenceIdeal.Gen.bitsLt_bf16_f32 : FVec Ideal Cert.KernelIdeal.S512x256 .f32), ?_, ?_⟩
  · exact (θ_run Cert.KernelIdeal.defs _ _).mono (fun _ h c => ⟨(h.1 c).1.trans (result_eq hx hwi hwo c), (h.1 c).2⟩) (run_main (F := Ideal) m g)
  · exact (θ_run Cert.ReferenceIdeal.defs _ _).mono (fun _ h => ⟨(h 0).1, (h 0).2⟩) (Cert.ReferenceIdeal.Value.run (F := Ideal) m' g')

theorem claim : Cert.Claim :=
  ⟨Cert.Kernel.Gen.facts, Cert.KernelIdeal.Gen.facts, Cert.ReferenceIdeal.Gen.facts,
    quiescent_kernel, quiescent_kernelIdeal, quiescent_referenceIdeal, trivial, algebraic⟩

end Cert.Proof

end
